-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x16x512x2048 : Shape := ⟨4, ![2, 16, 512, 2048]⟩
abbrev S16x8x128 : Shape := ⟨3, ![16, 8, 128]⟩
abbrev S_ : Shape := ⟨0, ![]⟩
abbrev S1x16x8x128 : Shape := ⟨4, ![1, 16, 8, 128]⟩
abbrev S1x1x16 : Shape := ⟨3, ![1, 1, 16]⟩
abbrev S16 : Shape := ⟨1, ![16]⟩

abbrev nBuf : Table → Nat
  | .hbm => 2
  | .local .scVector .vmem => 4
  | _ => 0

abbrev bufTy : (tb : Table) → Fin (nBuf tb) → BufTy
  | .hbm, ⟨0, _⟩ => ⟨S2x16x512x2048, .f32⟩
  | .hbm, ⟨1, _⟩ => ⟨S2x16x512x2048, .f32⟩
  | .local .scVector .vmem, ⟨0, _⟩ => ⟨S16x8x128, .f32⟩
  | .local .scVector .vmem, ⟨1, _⟩ => ⟨S16x8x128, .f32⟩
  | .local .scVector .vmem, ⟨2, _⟩ => ⟨S16x8x128, .f32⟩
  | .local .scVector .vmem, ⟨3, _⟩ => ⟨S16x8x128, .f32⟩
  | _, _ => ⟨S2x16x512x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_11 : BitVec 32 := 0#32
  let c512_i32_4 : BitVec 32 := 512#32
  let c0_i32_5 : BitVec 32 := 0#32
  let v20 : BitVec 1 := Scalar.cmpi .eq c512_i32_4 c0_i32_5
  let c1_i32_6 : BitVec 32 := 1#32
  let v21 : BitVec 32 := Scalar.select v20 c1_i32_6 c512_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c0_i32_10 : BitVec 32 := 0#32
  let v30 : BitVec 32 := Scalar.addi v29 c0_i32_10
  let c0_i32_12 : BitVec 32 := 0#32
  ![v19.toNat, 0, v30.toNat, 0]
@[reducible] def k0_t1_loop : Scf.Loop 32 :=
  let c0_i32_16 : BitVec 32 := 0#32
  let c16_i32 : BitVec 32 := 16#32
  let v35 : BitVec 32 := Scalar.addi c0_i32_16 c16_i32
  let c1_i32_17 : BitVec 32 := 1#32
  ⟨c0_i32_16, v35, c1_i32_17⟩
def k0_cond1 (k0_t1 : Fin k0_t1_loop.trips) : BitVec 1 :=
  let c0_i32_16 : BitVec 32 := 0#32
  let c1_i32_17 : BitVec 32 := 1#32
  let arg16 : BitVec 32 := Scf.iv c0_i32_16 c1_i32_17 k0_t1
  let c4_i32 : BitVec 32 := 4#32
  let v56 : BitVec 32 := Scalar.muli arg16 c4_i32
  let c0_i32_34 : BitVec 32 := 0#32
  let v57 : BitVec 32 := Scalar.addi v56 c0_i32_34
  let c1_i32_35 : BitVec 32 := 1#32
  let v58 : BitVec 32 := Scalar.addi v57 c1_i32_35
  let c64_i32 : BitVec 32 := 64#32
  let v59 : BitVec 1 := Scalar.cmpi .slt v58 c64_i32
  let v60 : BitVec 32 := Scalar.extui v59
  let c0_i32_36 : BitVec 32 := 0#32
  let v61 : BitVec 1 := Scalar.cmpi .ne v60 c0_i32_36
  v61

def k0_cond2 (k0_t1 : Fin k0_t1_loop.trips) : BitVec 1 :=
  let c0_i32_16 : BitVec 32 := 0#32
  let c1_i32_17 : BitVec 32 := 1#32
  let arg16 : BitVec 32 := Scf.iv c0_i32_16 c1_i32_17 k0_t1
  let c4_i32 : BitVec 32 := 4#32
  let v56 : BitVec 32 := Scalar.muli arg16 c4_i32
  let c0_i32_34 : BitVec 32 := 0#32
  let v57 : BitVec 32 := Scalar.addi v56 c0_i32_34
  let c1_i32_35 : BitVec 32 := 1#32
  let v58 : BitVec 32 := Scalar.addi v57 c1_i32_35
  let c4_i32_205 : BitVec 32 := 4#32
  let v356 : BitVec 1 := Scalar.cmpi .sge v58 c4_i32_205
  let v357 : BitVec 32 := Scalar.extui v356
  let c0_i32_206 : BitVec 32 := 0#32
  let v358 : BitVec 1 := Scalar.cmpi .ne v357 c0_i32_206
  v358

def k0_off2 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_240 : BitVec 32 := 0#32
  let c512_i32_4 : BitVec 32 := 512#32
  let c0_i32_5 : BitVec 32 := 0#32
  let v20 : BitVec 1 := Scalar.cmpi .eq c512_i32_4 c0_i32_5
  let c1_i32_6 : BitVec 32 := 1#32
  let v21 : BitVec 32 := Scalar.select v20 c1_i32_6 c512_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c0_i32_16 : BitVec 32 := 0#32
  let c1_i32_17 : BitVec 32 := 1#32
  let arg16 : BitVec 32 := Scf.iv c0_i32_16 c1_i32_17 k0_t1
  let c4_i32 : BitVec 32 := 4#32
  let v56 : BitVec 32 := Scalar.muli arg16 c4_i32
  let c0_i32_34 : BitVec 32 := 0#32
  let v57 : BitVec 32 := Scalar.addi v56 c0_i32_34
  let c1_i32_35 : BitVec 32 := 1#32
  let v58 : BitVec 32 := Scalar.addi v57 c1_i32_35
  let c4_i32_224 : BitVec 32 := 4#32
  let v393 : BitVec 32 := Scalar.subi v58 c4_i32_224
  let c0_i32_226 : BitVec 32 := 0#32
  let v395 : BitVec 1 := Scalar.cmpi .sgt v393 c0_i32_226
  let v396 : BitVec 32 := Scalar.extui v395
  let c0_i32_227 : BitVec 32 := 0#32
  let v397 : BitVec 1 := Scalar.cmpi .slt v393 c0_i32_227
  let v398 : BitVec 32 := Scalar.extui v397
  let v399 : BitVec 32 := Scalar.subi v396 v398
  let c16_i32_225 : BitVec 32 := 16#32
  let c0_i32_228 : BitVec 32 := 0#32
  let v400 : BitVec 1 := Scalar.cmpi .sgt c16_i32_225 c0_i32_228
  let v401 : BitVec 32 := Scalar.extui v400
  let c0_i32_229 : BitVec 32 := 0#32
  let v402 : BitVec 1 := Scalar.cmpi .slt c16_i32_225 c0_i32_229
  let v403 : BitVec 32 := Scalar.extui v402
  let v404 : BitVec 32 := Scalar.subi v401 v403
  let v405 : BitVec 1 := Scalar.cmpi .ne v399 v404
  let v406 : BitVec 32 := Scalar.remsi v393 c16_i32_225
  let c0_i32_230 : BitVec 32 := 0#32
  let v407 : BitVec 1 := Scalar.cmpi .ne v406 c0_i32_230
  let v408 : BitVec 1 := Scalar.andi v405 v407
  let v394 : BitVec 32 := Scalar.divsi v393 c16_i32_225
  let c1_i32_231 : BitVec 32 := 1#32
  let v409 : BitVec 32 := Scalar.subi v394 c1_i32_231
  let v410 : BitVec 32 := Scalar.select v408 v409 v394
  let c8_i32_238 : BitVec 32 := 8#32
  let v421 : BitVec 32 := Scalar.muli v410 c8_i32_238
  let v422 : BitVec 32 := Scalar.addi v29 v421
  let c16_i32_232 : BitVec 32 := 16#32
  let c0_i32_233 : BitVec 32 := 0#32
  let v411 : BitVec 1 := Scalar.cmpi .eq c16_i32_232 c0_i32_233
  let c1_i32_234 : BitVec 32 := 1#32
  let v412 : BitVec 32 := Scalar.select v411 c1_i32_234 c16_i32_232
  let v413 : BitVec 32 := Scalar.remsi v393 v412
  let c0_i32_236 : BitVec 32 := 0#32
  let v415 : BitVec 1 := Scalar.cmpi .slt v413 c0_i32_236
  let c0_i32_237 : BitVec 32 := 0#32
  let v416 : BitVec 1 := Scalar.cmpi .slt v412 c0_i32_237
  let v417 : BitVec 1 := Scalar.xori v415 v416
  let c0_i32_235 : BitVec 32 := 0#32
  let v414 : BitVec 1 := Scalar.cmpi .ne v413 c0_i32_235
  let v418 : BitVec 1 := Scalar.andi v417 v414
  let v419 : BitVec 32 := Scalar.addi v413 v412
  let v420 : BitVec 32 := Scalar.select v418 v419 v413
  let c128_i32_239 : BitVec 32 := 128#32
  let v423 : BitVec 32 := Scalar.muli v420 c128_i32_239
  ![v19.toNat, 0, v422.toNat, v423.toNat]
def k0_off3 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_222 : BitVec 32 := 0#32
  let c512_i32_4 : BitVec 32 := 512#32
  let c0_i32_5 : BitVec 32 := 0#32
  let v20 : BitVec 1 := Scalar.cmpi .eq c512_i32_4 c0_i32_5
  let c1_i32_6 : BitVec 32 := 1#32
  let v21 : BitVec 32 := Scalar.select v20 c1_i32_6 c512_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c0_i32_16 : BitVec 32 := 0#32
  let c1_i32_17 : BitVec 32 := 1#32
  let arg16 : BitVec 32 := Scf.iv c0_i32_16 c1_i32_17 k0_t1
  let c4_i32 : BitVec 32 := 4#32
  let v56 : BitVec 32 := Scalar.muli arg16 c4_i32
  let c0_i32_34 : BitVec 32 := 0#32
  let v57 : BitVec 32 := Scalar.addi v56 c0_i32_34
  let c1_i32_35 : BitVec 32 := 1#32
  let v58 : BitVec 32 := Scalar.addi v57 c1_i32_35
  let c0_i32_208 : BitVec 32 := 0#32
  let v360 : BitVec 1 := Scalar.cmpi .sgt v58 c0_i32_208
  let v361 : BitVec 32 := Scalar.extui v360
  let c0_i32_209 : BitVec 32 := 0#32
  let v362 : BitVec 1 := Scalar.cmpi .slt v58 c0_i32_209
  let v363 : BitVec 32 := Scalar.extui v362
  let v364 : BitVec 32 := Scalar.subi v361 v363
  let c16_i32_207 : BitVec 32 := 16#32
  let c0_i32_210 : BitVec 32 := 0#32
  let v365 : BitVec 1 := Scalar.cmpi .sgt c16_i32_207 c0_i32_210
  let v366 : BitVec 32 := Scalar.extui v365
  let c0_i32_211 : BitVec 32 := 0#32
  let v367 : BitVec 1 := Scalar.cmpi .slt c16_i32_207 c0_i32_211
  let v368 : BitVec 32 := Scalar.extui v367
  let v369 : BitVec 32 := Scalar.subi v366 v368
  let v370 : BitVec 1 := Scalar.cmpi .ne v364 v369
  let v371 : BitVec 32 := Scalar.remsi v58 c16_i32_207
  let c0_i32_212 : BitVec 32 := 0#32
  let v372 : BitVec 1 := Scalar.cmpi .ne v371 c0_i32_212
  let v373 : BitVec 1 := Scalar.andi v370 v372
  let v359 : BitVec 32 := Scalar.divsi v58 c16_i32_207
  let c1_i32_213 : BitVec 32 := 1#32
  let v374 : BitVec 32 := Scalar.subi v359 c1_i32_213
  let v375 : BitVec 32 := Scalar.select v373 v374 v359
  let c8_i32_220 : BitVec 32 := 8#32
  let v386 : BitVec 32 := Scalar.muli v375 c8_i32_220
  let v387 : BitVec 32 := Scalar.addi v29 v386
  let c16_i32_214 : BitVec 32 := 16#32
  let c0_i32_215 : BitVec 32 := 0#32
  let v376 : BitVec 1 := Scalar.cmpi .eq c16_i32_214 c0_i32_215
  let c1_i32_216 : BitVec 32 := 1#32
  let v377 : BitVec 32 := Scalar.select v376 c1_i32_216 c16_i32_214
  let v378 : BitVec 32 := Scalar.remsi v58 v377
  let c0_i32_218 : BitVec 32 := 0#32
  let v380 : BitVec 1 := Scalar.cmpi .slt v378 c0_i32_218
  let c0_i32_219 : BitVec 32 := 0#32
  let v381 : BitVec 1 := Scalar.cmpi .slt v377 c0_i32_219
  let v382 : BitVec 1 := Scalar.xori v380 v381
  let c0_i32_217 : BitVec 32 := 0#32
  let v379 : BitVec 1 := Scalar.cmpi .ne v378 c0_i32_217
  let v383 : BitVec 1 := Scalar.andi v382 v379
  let v384 : BitVec 32 := Scalar.addi v378 v377
  let v385 : BitVec 32 := Scalar.select v383 v384 v378
  let c128_i32_221 : BitVec 32 := 128#32
  let v388 : BitVec 32 := Scalar.muli v385 c128_i32_221
  ![v19.toNat, 0, v387.toNat, v388.toNat]
def k0_off4 (i : grid0.Coords) (k0_t1 : Fin k0_t1_loop.trips) (c0_i32_34 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_50 : BitVec 32 := 0#32
  let c512_i32_4 : BitVec 32 := 512#32
  let c0_i32_5 : BitVec 32 := 0#32
  let v20 : BitVec 1 := Scalar.cmpi .eq c512_i32_4 c0_i32_5
  let c1_i32_6 : BitVec 32 := 1#32
  let v21 : BitVec 32 := Scalar.select v20 c1_i32_6 c512_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c0_i32_16 : BitVec 32 := 0#32
  let c1_i32_17 : BitVec 32 := 1#32
  let arg16 : BitVec 32 := Scf.iv c0_i32_16 c1_i32_17 k0_t1
  let c4_i32 : BitVec 32 := 4#32
  let v56 : BitVec 32 := Scalar.muli arg16 c4_i32
  let v57 : BitVec 32 := Scalar.addi v56 c0_i32_34
  let c0_i32_38 : BitVec 32 := 0#32
  let v63 : BitVec 1 := Scalar.cmpi .sgt v57 c0_i32_38
  let v64 : BitVec 32 := Scalar.extui v63
  let c0_i32_39 : BitVec 32 := 0#32
  let v65 : BitVec 1 := Scalar.cmpi .slt v57 c0_i32_39
  let v66 : BitVec 32 := Scalar.extui v65
  let v67 : BitVec 32 := Scalar.subi v64 v66
  let c16_i32_37 : BitVec 32 := 16#32
  let c0_i32_40 : BitVec 32 := 0#32
  let v68 : BitVec 1 := Scalar.cmpi .sgt c16_i32_37 c0_i32_40
  let v69 : BitVec 32 := Scalar.extui v68
  let c0_i32_41 : BitVec 32 := 0#32
  let v70 : BitVec 1 := Scalar.cmpi .slt c16_i32_37 c0_i32_41
  let v71 : BitVec 32 := Scalar.extui v70
  let v72 : BitVec 32 := Scalar.subi v69 v71
  let v73 : BitVec 1 := Scalar.cmpi .ne v67 v72
  let v74 : BitVec 32 := Scalar.remsi v57 c16_i32_37
  let c0_i32_42 : BitVec 32 := 0#32
  let v75 : BitVec 1 := Scalar.cmpi .ne v74 c0_i32_42
  let v76 : BitVec 1 := Scalar.andi v73 v75
  let v62 : BitVec 32 := Scalar.divsi v57 c16_i32_37
  let c1_i32_43 : BitVec 32 := 1#32
  let v77 : BitVec 32 := Scalar.subi v62 c1_i32_43
  let v78 : BitVec 32 := Scalar.select v76 v77 v62
  let c8_i32 : BitVec 32 := 8#32
  let v89 : BitVec 32 := Scalar.muli v78 c8_i32
  let v90 : BitVec 32 := Scalar.addi v29 v89
  let c16_i32_44 : BitVec 32 := 16#32
  let c0_i32_45 : BitVec 32 := 0#32
  let v79 : BitVec 1 := Scalar.cmpi .eq c16_i32_44 c0_i32_45
  let c1_i32_46 : BitVec 32 := 1#32
  let v80 : BitVec 32 := Scalar.select v79 c1_i32_46 c16_i32_44
  let v81 : BitVec 32 := Scalar.remsi v57 v80
  let c0_i32_48 : BitVec 32 := 0#32
  let v83 : BitVec 1 := Scalar.cmpi .slt v81 c0_i32_48
  let c0_i32_49 : BitVec 32 := 0#32
  let v84 : BitVec 1 := Scalar.cmpi .slt v80 c0_i32_49
  let v85 : BitVec 1 := Scalar.xori v83 v84
  let c0_i32_47 : BitVec 32 := 0#32
  let v82 : BitVec 1 := Scalar.cmpi .ne v81 c0_i32_47
  let v86 : BitVec 1 := Scalar.andi v85 v82
  let v87 : BitVec 32 := Scalar.addi v81 v80
  let v88 : BitVec 32 := Scalar.select v86 v87 v81
  let c128_i32 : BitVec 32 := 128#32
  let v91 : BitVec 32 := Scalar.muli v88 c128_i32
  ![v19.toNat, 0, v90.toNat, v91.toNat]
@[reducible] def k0_t2_loop : Scf.Loop 32 :=
  let c0_i32_53 : BitVec 32 := 0#32
  let c64_i32_54 : BitVec 32 := 64#32
  let v96 : BitVec 32 := Scalar.addi c0_i32_53 c64_i32_54
  let c1_i32_55 : BitVec 32 := 1#32
  ⟨c0_i32_53, v96, c1_i32_55⟩
def k0_off5 (k0_t2 : Fin k0_t2_loop.trips) : Fin 3 → Nat :=
  let c0_i32_219 : BitVec 32 := 0#32
  let v384 : Index := Scalar.indexCast c0_i32_219
  let c0_i32_53 : BitVec 32 := 0#32
  let c1_i32_55 : BitVec 32 := 1#32
  let arg17 : BitVec 32 := Scf.iv c0_i32_53 c1_i32_55 k0_t2
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v385 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v386 : Index := Scalar.indexCast v383
  ![0, v385.toNat, v386.toNat]
def k0_off6 (k0_t2 : Fin k0_t2_loop.trips) : Fin 3 → Nat :=
  let c1_i32_220 : BitVec 32 := 1#32
  let v389 : Index := Scalar.indexCast c1_i32_220
  let c0_i32_53 : BitVec 32 := 0#32
  let c1_i32_55 : BitVec 32 := 1#32
  let arg17 : BitVec 32 := Scf.iv c0_i32_53 c1_i32_55 k0_t2
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v390 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v391 : Index := Scalar.indexCast v383
  ![1, v390.toNat, v391.toNat]
def k0_off7 (k0_t2 : Fin k0_t2_loop.trips) : Fin 3 → Nat :=
  let c2_i32_221 : BitVec 32 := 2#32
  let v394 : Index := Scalar.indexCast c2_i32_221
  let c0_i32_53 : BitVec 32 := 0#32
  let c1_i32_55 : BitVec 32 := 1#32
  let arg17 : BitVec 32 := Scf.iv c0_i32_53 c1_i32_55 k0_t2
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v395 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v396 : Index := Scalar.indexCast v383
  ![2, v395.toNat, v396.toNat]
def k0_off8 (k0_t2 : Fin k0_t2_loop.trips) : Fin 3 → Nat :=
  let c3_i32_222 : BitVec 32 := 3#32
  let v399 : Index := Scalar.indexCast c3_i32_222
  let c0_i32_53 : BitVec 32 := 0#32
  let c1_i32_55 : BitVec 32 := 1#32
  let arg17 : BitVec 32 := Scf.iv c0_i32_53 c1_i32_55 k0_t2
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v400 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v401 : Index := Scalar.indexCast v383
  ![3, v400.toNat, v401.toNat]
def k0_off9 (k0_t2 : Fin k0_t2_loop.trips) : Fin 3 → Nat :=
  let c4_i32_223 : BitVec 32 := 4#32
  let v404 : Index := Scalar.indexCast c4_i32_223
  let c0_i32_53 : BitVec 32 := 0#32
  let c1_i32_55 : BitVec 32 := 1#32
  let arg17 : BitVec 32 := Scf.iv c0_i32_53 c1_i32_55 k0_t2
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v405 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v406 : Index := Scalar.indexCast v383
  ![4, v405.toNat, v406.toNat]
def k0_off10 (k0_t2 : Fin k0_t2_loop.trips) : Fin 3 → Nat :=
  let c5_i32 : BitVec 32 := 5#32
  let v409 : Index := Scalar.indexCast c5_i32
  let c0_i32_53 : BitVec 32 := 0#32
  let c1_i32_55 : BitVec 32 := 1#32
  let arg17 : BitVec 32 := Scf.iv c0_i32_53 c1_i32_55 k0_t2
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v410 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v411 : Index := Scalar.indexCast v383
  ![5, v410.toNat, v411.toNat]
def k0_off11 (k0_t2 : Fin k0_t2_loop.trips) : Fin 3 → Nat :=
  let c6_i32 : BitVec 32 := 6#32
  let v414 : Index := Scalar.indexCast c6_i32
  let c0_i32_53 : BitVec 32 := 0#32
  let c1_i32_55 : BitVec 32 := 1#32
  let arg17 : BitVec 32 := Scf.iv c0_i32_53 c1_i32_55 k0_t2
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v415 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v416 : Index := Scalar.indexCast v383
  ![6, v415.toNat, v416.toNat]
def k0_off12 (k0_t2 : Fin k0_t2_loop.trips) : Fin 3 → Nat :=
  let c7_i32 : BitVec 32 := 7#32
  let v419 : Index := Scalar.indexCast c7_i32
  let c0_i32_53 : BitVec 32 := 0#32
  let c1_i32_55 : BitVec 32 := 1#32
  let arg17 : BitVec 32 := Scf.iv c0_i32_53 c1_i32_55 k0_t2
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v420 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v421 : Index := Scalar.indexCast v383
  ![7, v420.toNat, v421.toNat]
def k0_off13 (k0_t2 : Fin k0_t2_loop.trips) : Fin 3 → Nat :=
  let c8_i32_224 : BitVec 32 := 8#32
  let v424 : Index := Scalar.indexCast c8_i32_224
  let c0_i32_53 : BitVec 32 := 0#32
  let c1_i32_55 : BitVec 32 := 1#32
  let arg17 : BitVec 32 := Scf.iv c0_i32_53 c1_i32_55 k0_t2
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v425 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v426 : Index := Scalar.indexCast v383
  ![8, v425.toNat, v426.toNat]
def k0_off14 (k0_t2 : Fin k0_t2_loop.trips) : Fin 3 → Nat :=
  let c9_i32 : BitVec 32 := 9#32
  let v429 : Index := Scalar.indexCast c9_i32
  let c0_i32_53 : BitVec 32 := 0#32
  let c1_i32_55 : BitVec 32 := 1#32
  let arg17 : BitVec 32 := Scf.iv c0_i32_53 c1_i32_55 k0_t2
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v430 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v431 : Index := Scalar.indexCast v383
  ![9, v430.toNat, v431.toNat]
def k0_off15 (k0_t2 : Fin k0_t2_loop.trips) : Fin 3 → Nat :=
  let c10_i32 : BitVec 32 := 10#32
  let v434 : Index := Scalar.indexCast c10_i32
  let c0_i32_53 : BitVec 32 := 0#32
  let c1_i32_55 : BitVec 32 := 1#32
  let arg17 : BitVec 32 := Scf.iv c0_i32_53 c1_i32_55 k0_t2
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v435 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v436 : Index := Scalar.indexCast v383
  ![10, v435.toNat, v436.toNat]
def k0_off16 (k0_t2 : Fin k0_t2_loop.trips) : Fin 3 → Nat :=
  let c11_i32 : BitVec 32 := 11#32
  let v439 : Index := Scalar.indexCast c11_i32
  let c0_i32_53 : BitVec 32 := 0#32
  let c1_i32_55 : BitVec 32 := 1#32
  let arg17 : BitVec 32 := Scf.iv c0_i32_53 c1_i32_55 k0_t2
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v440 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v441 : Index := Scalar.indexCast v383
  ![11, v440.toNat, v441.toNat]
def k0_off17 (k0_t2 : Fin k0_t2_loop.trips) : Fin 3 → Nat :=
  let c12_i32 : BitVec 32 := 12#32
  let v444 : Index := Scalar.indexCast c12_i32
  let c0_i32_53 : BitVec 32 := 0#32
  let c1_i32_55 : BitVec 32 := 1#32
  let arg17 : BitVec 32 := Scf.iv c0_i32_53 c1_i32_55 k0_t2
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v445 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v446 : Index := Scalar.indexCast v383
  ![12, v445.toNat, v446.toNat]
def k0_off18 (k0_t2 : Fin k0_t2_loop.trips) : Fin 3 → Nat :=
  let c13_i32 : BitVec 32 := 13#32
  let v449 : Index := Scalar.indexCast c13_i32
  let c0_i32_53 : BitVec 32 := 0#32
  let c1_i32_55 : BitVec 32 := 1#32
  let arg17 : BitVec 32 := Scf.iv c0_i32_53 c1_i32_55 k0_t2
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v450 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v451 : Index := Scalar.indexCast v383
  ![13, v450.toNat, v451.toNat]
def k0_off19 (k0_t2 : Fin k0_t2_loop.trips) : Fin 3 → Nat :=
  let c14_i32 : BitVec 32 := 14#32
  let v454 : Index := Scalar.indexCast c14_i32
  let c0_i32_53 : BitVec 32 := 0#32
  let c1_i32_55 : BitVec 32 := 1#32
  let arg17 : BitVec 32 := Scf.iv c0_i32_53 c1_i32_55 k0_t2
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v455 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v456 : Index := Scalar.indexCast v383
  ![14, v455.toNat, v456.toNat]
def k0_off20 (k0_t2 : Fin k0_t2_loop.trips) : Fin 3 → Nat :=
  let c15_i32 : BitVec 32 := 15#32
  let v459 : Index := Scalar.indexCast c15_i32
  let c0_i32_53 : BitVec 32 := 0#32
  let c1_i32_55 : BitVec 32 := 1#32
  let arg17 : BitVec 32 := Scf.iv c0_i32_53 c1_i32_55 k0_t2
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v460 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v461 : Index := Scalar.indexCast v383
  ![15, v460.toNat, v461.toNat]
def k0_cond3 (k0_t1 : Fin k0_t1_loop.trips) : BitVec 1 :=
  let c0_i32_16 : BitVec 32 := 0#32
  let c1_i32_17 : BitVec 32 := 1#32
  let arg16 : BitVec 32 := Scf.iv c0_i32_16 c1_i32_17 k0_t1
  let c4_i32_74 : BitVec 32 := 4#32
  let v131 : BitVec 32 := Scalar.muli arg16 c4_i32_74
  let c1_i32_75 : BitVec 32 := 1#32
  let v132 : BitVec 32 := Scalar.addi v131 c1_i32_75
  let c1_i32_76 : BitVec 32 := 1#32
  let v133 : BitVec 32 := Scalar.addi v132 c1_i32_76
  let c64_i32_77 : BitVec 32 := 64#32
  let v134 : BitVec 1 := Scalar.cmpi .slt v133 c64_i32_77
  let v135 : BitVec 32 := Scalar.extui v134
  let c0_i32_78 : BitVec 32 := 0#32
  let v136 : BitVec 1 := Scalar.cmpi .ne v135 c0_i32_78
  v136

def k0_cond4 (k0_t1 : Fin k0_t1_loop.trips) : BitVec 1 :=
  let c0_i32_16 : BitVec 32 := 0#32
  let c1_i32_17 : BitVec 32 := 1#32
  let arg16 : BitVec 32 := Scf.iv c0_i32_16 c1_i32_17 k0_t1
  let c4_i32_74 : BitVec 32 := 4#32
  let v131 : BitVec 32 := Scalar.muli arg16 c4_i32_74
  let c1_i32_75 : BitVec 32 := 1#32
  let v132 : BitVec 32 := Scalar.addi v131 c1_i32_75
  let c1_i32_76 : BitVec 32 := 1#32
  let v133 : BitVec 32 := Scalar.addi v132 c1_i32_76
  let c4_i32_205 : BitVec 32 := 4#32
  let v356 : BitVec 1 := Scalar.cmpi .sge v133 c4_i32_205
  let v357 : BitVec 32 := Scalar.extui v356
  let c0_i32_206 : BitVec 32 := 0#32
  let v358 : BitVec 1 := Scalar.cmpi .ne v357 c0_i32_206
  v358

def k0_off21 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_240 : BitVec 32 := 0#32
  let c512_i32_4 : BitVec 32 := 512#32
  let c0_i32_5 : BitVec 32 := 0#32
  let v20 : BitVec 1 := Scalar.cmpi .eq c512_i32_4 c0_i32_5
  let c1_i32_6 : BitVec 32 := 1#32
  let v21 : BitVec 32 := Scalar.select v20 c1_i32_6 c512_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c0_i32_16 : BitVec 32 := 0#32
  let c1_i32_17 : BitVec 32 := 1#32
  let arg16 : BitVec 32 := Scf.iv c0_i32_16 c1_i32_17 k0_t1
  let c4_i32_74 : BitVec 32 := 4#32
  let v131 : BitVec 32 := Scalar.muli arg16 c4_i32_74
  let c1_i32_75 : BitVec 32 := 1#32
  let v132 : BitVec 32 := Scalar.addi v131 c1_i32_75
  let c1_i32_76 : BitVec 32 := 1#32
  let v133 : BitVec 32 := Scalar.addi v132 c1_i32_76
  let c4_i32_224 : BitVec 32 := 4#32
  let v393 : BitVec 32 := Scalar.subi v133 c4_i32_224
  let c0_i32_226 : BitVec 32 := 0#32
  let v395 : BitVec 1 := Scalar.cmpi .sgt v393 c0_i32_226
  let v396 : BitVec 32 := Scalar.extui v395
  let c0_i32_227 : BitVec 32 := 0#32
  let v397 : BitVec 1 := Scalar.cmpi .slt v393 c0_i32_227
  let v398 : BitVec 32 := Scalar.extui v397
  let v399 : BitVec 32 := Scalar.subi v396 v398
  let c16_i32_225 : BitVec 32 := 16#32
  let c0_i32_228 : BitVec 32 := 0#32
  let v400 : BitVec 1 := Scalar.cmpi .sgt c16_i32_225 c0_i32_228
  let v401 : BitVec 32 := Scalar.extui v400
  let c0_i32_229 : BitVec 32 := 0#32
  let v402 : BitVec 1 := Scalar.cmpi .slt c16_i32_225 c0_i32_229
  let v403 : BitVec 32 := Scalar.extui v402
  let v404 : BitVec 32 := Scalar.subi v401 v403
  let v405 : BitVec 1 := Scalar.cmpi .ne v399 v404
  let v406 : BitVec 32 := Scalar.remsi v393 c16_i32_225
  let c0_i32_230 : BitVec 32 := 0#32
  let v407 : BitVec 1 := Scalar.cmpi .ne v406 c0_i32_230
  let v408 : BitVec 1 := Scalar.andi v405 v407
  let v394 : BitVec 32 := Scalar.divsi v393 c16_i32_225
  let c1_i32_231 : BitVec 32 := 1#32
  let v409 : BitVec 32 := Scalar.subi v394 c1_i32_231
  let v410 : BitVec 32 := Scalar.select v408 v409 v394
  let c8_i32_238 : BitVec 32 := 8#32
  let v421 : BitVec 32 := Scalar.muli v410 c8_i32_238
  let v422 : BitVec 32 := Scalar.addi v29 v421
  let c16_i32_232 : BitVec 32 := 16#32
  let c0_i32_233 : BitVec 32 := 0#32
  let v411 : BitVec 1 := Scalar.cmpi .eq c16_i32_232 c0_i32_233
  let c1_i32_234 : BitVec 32 := 1#32
  let v412 : BitVec 32 := Scalar.select v411 c1_i32_234 c16_i32_232
  let v413 : BitVec 32 := Scalar.remsi v393 v412
  let c0_i32_236 : BitVec 32 := 0#32
  let v415 : BitVec 1 := Scalar.cmpi .slt v413 c0_i32_236
  let c0_i32_237 : BitVec 32 := 0#32
  let v416 : BitVec 1 := Scalar.cmpi .slt v412 c0_i32_237
  let v417 : BitVec 1 := Scalar.xori v415 v416
  let c0_i32_235 : BitVec 32 := 0#32
  let v414 : BitVec 1 := Scalar.cmpi .ne v413 c0_i32_235
  let v418 : BitVec 1 := Scalar.andi v417 v414
  let v419 : BitVec 32 := Scalar.addi v413 v412
  let v420 : BitVec 32 := Scalar.select v418 v419 v413
  let c128_i32_239 : BitVec 32 := 128#32
  let v423 : BitVec 32 := Scalar.muli v420 c128_i32_239
  ![v19.toNat, 0, v422.toNat, v423.toNat]
def k0_off22 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_222 : BitVec 32 := 0#32
  let c512_i32_4 : BitVec 32 := 512#32
  let c0_i32_5 : BitVec 32 := 0#32
  let v20 : BitVec 1 := Scalar.cmpi .eq c512_i32_4 c0_i32_5
  let c1_i32_6 : BitVec 32 := 1#32
  let v21 : BitVec 32 := Scalar.select v20 c1_i32_6 c512_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c0_i32_16 : BitVec 32 := 0#32
  let c1_i32_17 : BitVec 32 := 1#32
  let arg16 : BitVec 32 := Scf.iv c0_i32_16 c1_i32_17 k0_t1
  let c4_i32_74 : BitVec 32 := 4#32
  let v131 : BitVec 32 := Scalar.muli arg16 c4_i32_74
  let c1_i32_75 : BitVec 32 := 1#32
  let v132 : BitVec 32 := Scalar.addi v131 c1_i32_75
  let c1_i32_76 : BitVec 32 := 1#32
  let v133 : BitVec 32 := Scalar.addi v132 c1_i32_76
  let c0_i32_208 : BitVec 32 := 0#32
  let v360 : BitVec 1 := Scalar.cmpi .sgt v133 c0_i32_208
  let v361 : BitVec 32 := Scalar.extui v360
  let c0_i32_209 : BitVec 32 := 0#32
  let v362 : BitVec 1 := Scalar.cmpi .slt v133 c0_i32_209
  let v363 : BitVec 32 := Scalar.extui v362
  let v364 : BitVec 32 := Scalar.subi v361 v363
  let c16_i32_207 : BitVec 32 := 16#32
  let c0_i32_210 : BitVec 32 := 0#32
  let v365 : BitVec 1 := Scalar.cmpi .sgt c16_i32_207 c0_i32_210
  let v366 : BitVec 32 := Scalar.extui v365
  let c0_i32_211 : BitVec 32 := 0#32
  let v367 : BitVec 1 := Scalar.cmpi .slt c16_i32_207 c0_i32_211
  let v368 : BitVec 32 := Scalar.extui v367
  let v369 : BitVec 32 := Scalar.subi v366 v368
  let v370 : BitVec 1 := Scalar.cmpi .ne v364 v369
  let v371 : BitVec 32 := Scalar.remsi v133 c16_i32_207
  let c0_i32_212 : BitVec 32 := 0#32
  let v372 : BitVec 1 := Scalar.cmpi .ne v371 c0_i32_212
  let v373 : BitVec 1 := Scalar.andi v370 v372
  let v359 : BitVec 32 := Scalar.divsi v133 c16_i32_207
  let c1_i32_213 : BitVec 32 := 1#32
  let v374 : BitVec 32 := Scalar.subi v359 c1_i32_213
  let v375 : BitVec 32 := Scalar.select v373 v374 v359
  let c8_i32_220 : BitVec 32 := 8#32
  let v386 : BitVec 32 := Scalar.muli v375 c8_i32_220
  let v387 : BitVec 32 := Scalar.addi v29 v386
  let c16_i32_214 : BitVec 32 := 16#32
  let c0_i32_215 : BitVec 32 := 0#32
  let v376 : BitVec 1 := Scalar.cmpi .eq c16_i32_214 c0_i32_215
  let c1_i32_216 : BitVec 32 := 1#32
  let v377 : BitVec 32 := Scalar.select v376 c1_i32_216 c16_i32_214
  let v378 : BitVec 32 := Scalar.remsi v133 v377
  let c0_i32_218 : BitVec 32 := 0#32
  let v380 : BitVec 1 := Scalar.cmpi .slt v378 c0_i32_218
  let c0_i32_219 : BitVec 32 := 0#32
  let v381 : BitVec 1 := Scalar.cmpi .slt v377 c0_i32_219
  let v382 : BitVec 1 := Scalar.xori v380 v381
  let c0_i32_217 : BitVec 32 := 0#32
  let v379 : BitVec 1 := Scalar.cmpi .ne v378 c0_i32_217
  let v383 : BitVec 1 := Scalar.andi v382 v379
  let v384 : BitVec 32 := Scalar.addi v378 v377
  let v385 : BitVec 32 := Scalar.select v383 v384 v378
  let c128_i32_221 : BitVec 32 := 128#32
  let v388 : BitVec 32 := Scalar.muli v385 c128_i32_221
  ![v19.toNat, 0, v387.toNat, v388.toNat]
@[reducible] def k0_t3_loop : Scf.Loop 32 :=
  let c0_i32_97 : BitVec 32 := 0#32
  let c64_i32_98 : BitVec 32 := 64#32
  let v171 : BitVec 32 := Scalar.addi c0_i32_97 c64_i32_98
  let c1_i32_99 : BitVec 32 := 1#32
  ⟨c0_i32_97, v171, c1_i32_99⟩
def k0_off23 (k0_t3 : Fin k0_t3_loop.trips) : Fin 3 → Nat :=
  let c0_i32_219 : BitVec 32 := 0#32
  let v384 : Index := Scalar.indexCast c0_i32_219
  let c0_i32_97 : BitVec 32 := 0#32
  let c1_i32_99 : BitVec 32 := 1#32
  let arg17 : BitVec 32 := Scf.iv c0_i32_97 c1_i32_99 k0_t3
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v385 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v386 : Index := Scalar.indexCast v383
  ![0, v385.toNat, v386.toNat]
def k0_off24 (k0_t3 : Fin k0_t3_loop.trips) : Fin 3 → Nat :=
  let c1_i32_220 : BitVec 32 := 1#32
  let v389 : Index := Scalar.indexCast c1_i32_220
  let c0_i32_97 : BitVec 32 := 0#32
  let c1_i32_99 : BitVec 32 := 1#32
  let arg17 : BitVec 32 := Scf.iv c0_i32_97 c1_i32_99 k0_t3
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v390 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v391 : Index := Scalar.indexCast v383
  ![1, v390.toNat, v391.toNat]
def k0_off25 (k0_t3 : Fin k0_t3_loop.trips) : Fin 3 → Nat :=
  let c2_i32_221 : BitVec 32 := 2#32
  let v394 : Index := Scalar.indexCast c2_i32_221
  let c0_i32_97 : BitVec 32 := 0#32
  let c1_i32_99 : BitVec 32 := 1#32
  let arg17 : BitVec 32 := Scf.iv c0_i32_97 c1_i32_99 k0_t3
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v395 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v396 : Index := Scalar.indexCast v383
  ![2, v395.toNat, v396.toNat]
def k0_off26 (k0_t3 : Fin k0_t3_loop.trips) : Fin 3 → Nat :=
  let c3_i32_222 : BitVec 32 := 3#32
  let v399 : Index := Scalar.indexCast c3_i32_222
  let c0_i32_97 : BitVec 32 := 0#32
  let c1_i32_99 : BitVec 32 := 1#32
  let arg17 : BitVec 32 := Scf.iv c0_i32_97 c1_i32_99 k0_t3
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v400 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v401 : Index := Scalar.indexCast v383
  ![3, v400.toNat, v401.toNat]
def k0_off27 (k0_t3 : Fin k0_t3_loop.trips) : Fin 3 → Nat :=
  let c4_i32_223 : BitVec 32 := 4#32
  let v404 : Index := Scalar.indexCast c4_i32_223
  let c0_i32_97 : BitVec 32 := 0#32
  let c1_i32_99 : BitVec 32 := 1#32
  let arg17 : BitVec 32 := Scf.iv c0_i32_97 c1_i32_99 k0_t3
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v405 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v406 : Index := Scalar.indexCast v383
  ![4, v405.toNat, v406.toNat]
def k0_off28 (k0_t3 : Fin k0_t3_loop.trips) : Fin 3 → Nat :=
  let c5_i32 : BitVec 32 := 5#32
  let v409 : Index := Scalar.indexCast c5_i32
  let c0_i32_97 : BitVec 32 := 0#32
  let c1_i32_99 : BitVec 32 := 1#32
  let arg17 : BitVec 32 := Scf.iv c0_i32_97 c1_i32_99 k0_t3
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v410 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v411 : Index := Scalar.indexCast v383
  ![5, v410.toNat, v411.toNat]
def k0_off29 (k0_t3 : Fin k0_t3_loop.trips) : Fin 3 → Nat :=
  let c6_i32 : BitVec 32 := 6#32
  let v414 : Index := Scalar.indexCast c6_i32
  let c0_i32_97 : BitVec 32 := 0#32
  let c1_i32_99 : BitVec 32 := 1#32
  let arg17 : BitVec 32 := Scf.iv c0_i32_97 c1_i32_99 k0_t3
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v415 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v416 : Index := Scalar.indexCast v383
  ![6, v415.toNat, v416.toNat]
def k0_off30 (k0_t3 : Fin k0_t3_loop.trips) : Fin 3 → Nat :=
  let c7_i32 : BitVec 32 := 7#32
  let v419 : Index := Scalar.indexCast c7_i32
  let c0_i32_97 : BitVec 32 := 0#32
  let c1_i32_99 : BitVec 32 := 1#32
  let arg17 : BitVec 32 := Scf.iv c0_i32_97 c1_i32_99 k0_t3
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v420 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v421 : Index := Scalar.indexCast v383
  ![7, v420.toNat, v421.toNat]
def k0_off31 (k0_t3 : Fin k0_t3_loop.trips) : Fin 3 → Nat :=
  let c8_i32_224 : BitVec 32 := 8#32
  let v424 : Index := Scalar.indexCast c8_i32_224
  let c0_i32_97 : BitVec 32 := 0#32
  let c1_i32_99 : BitVec 32 := 1#32
  let arg17 : BitVec 32 := Scf.iv c0_i32_97 c1_i32_99 k0_t3
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v425 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v426 : Index := Scalar.indexCast v383
  ![8, v425.toNat, v426.toNat]
def k0_off32 (k0_t3 : Fin k0_t3_loop.trips) : Fin 3 → Nat :=
  let c9_i32 : BitVec 32 := 9#32
  let v429 : Index := Scalar.indexCast c9_i32
  let c0_i32_97 : BitVec 32 := 0#32
  let c1_i32_99 : BitVec 32 := 1#32
  let arg17 : BitVec 32 := Scf.iv c0_i32_97 c1_i32_99 k0_t3
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v430 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v431 : Index := Scalar.indexCast v383
  ![9, v430.toNat, v431.toNat]
def k0_off33 (k0_t3 : Fin k0_t3_loop.trips) : Fin 3 → Nat :=
  let c10_i32 : BitVec 32 := 10#32
  let v434 : Index := Scalar.indexCast c10_i32
  let c0_i32_97 : BitVec 32 := 0#32
  let c1_i32_99 : BitVec 32 := 1#32
  let arg17 : BitVec 32 := Scf.iv c0_i32_97 c1_i32_99 k0_t3
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v435 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v436 : Index := Scalar.indexCast v383
  ![10, v435.toNat, v436.toNat]
def k0_off34 (k0_t3 : Fin k0_t3_loop.trips) : Fin 3 → Nat :=
  let c11_i32 : BitVec 32 := 11#32
  let v439 : Index := Scalar.indexCast c11_i32
  let c0_i32_97 : BitVec 32 := 0#32
  let c1_i32_99 : BitVec 32 := 1#32
  let arg17 : BitVec 32 := Scf.iv c0_i32_97 c1_i32_99 k0_t3
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v440 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v441 : Index := Scalar.indexCast v383
  ![11, v440.toNat, v441.toNat]
def k0_off35 (k0_t3 : Fin k0_t3_loop.trips) : Fin 3 → Nat :=
  let c12_i32 : BitVec 32 := 12#32
  let v444 : Index := Scalar.indexCast c12_i32
  let c0_i32_97 : BitVec 32 := 0#32
  let c1_i32_99 : BitVec 32 := 1#32
  let arg17 : BitVec 32 := Scf.iv c0_i32_97 c1_i32_99 k0_t3
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v445 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v446 : Index := Scalar.indexCast v383
  ![12, v445.toNat, v446.toNat]
def k0_off36 (k0_t3 : Fin k0_t3_loop.trips) : Fin 3 → Nat :=
  let c13_i32 : BitVec 32 := 13#32
  let v449 : Index := Scalar.indexCast c13_i32
  let c0_i32_97 : BitVec 32 := 0#32
  let c1_i32_99 : BitVec 32 := 1#32
  let arg17 : BitVec 32 := Scf.iv c0_i32_97 c1_i32_99 k0_t3
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v450 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v451 : Index := Scalar.indexCast v383
  ![13, v450.toNat, v451.toNat]
def k0_off37 (k0_t3 : Fin k0_t3_loop.trips) : Fin 3 → Nat :=
  let c14_i32 : BitVec 32 := 14#32
  let v454 : Index := Scalar.indexCast c14_i32
  let c0_i32_97 : BitVec 32 := 0#32
  let c1_i32_99 : BitVec 32 := 1#32
  let arg17 : BitVec 32 := Scf.iv c0_i32_97 c1_i32_99 k0_t3
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v455 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v456 : Index := Scalar.indexCast v383
  ![14, v455.toNat, v456.toNat]
def k0_off38 (k0_t3 : Fin k0_t3_loop.trips) : Fin 3 → Nat :=
  let c15_i32 : BitVec 32 := 15#32
  let v459 : Index := Scalar.indexCast c15_i32
  let c0_i32_97 : BitVec 32 := 0#32
  let c1_i32_99 : BitVec 32 := 1#32
  let arg17 : BitVec 32 := Scf.iv c0_i32_97 c1_i32_99 k0_t3
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v460 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v461 : Index := Scalar.indexCast v383
  ![15, v460.toNat, v461.toNat]
def k0_cond5 (k0_t1 : Fin k0_t1_loop.trips) : BitVec 1 :=
  let c0_i32_16 : BitVec 32 := 0#32
  let c1_i32_17 : BitVec 32 := 1#32
  let arg16 : BitVec 32 := Scf.iv c0_i32_16 c1_i32_17 k0_t1
  let c4_i32_118 : BitVec 32 := 4#32
  let v206 : BitVec 32 := Scalar.muli arg16 c4_i32_118
  let c2_i32_119 : BitVec 32 := 2#32
  let v207 : BitVec 32 := Scalar.addi v206 c2_i32_119
  let c1_i32_120 : BitVec 32 := 1#32
  let v208 : BitVec 32 := Scalar.addi v207 c1_i32_120
  let c64_i32_121 : BitVec 32 := 64#32
  let v209 : BitVec 1 := Scalar.cmpi .slt v208 c64_i32_121
  let v210 : BitVec 32 := Scalar.extui v209
  let c0_i32_122 : BitVec 32 := 0#32
  let v211 : BitVec 1 := Scalar.cmpi .ne v210 c0_i32_122
  v211

def k0_cond6 (k0_t1 : Fin k0_t1_loop.trips) : BitVec 1 :=
  let c0_i32_16 : BitVec 32 := 0#32
  let c1_i32_17 : BitVec 32 := 1#32
  let arg16 : BitVec 32 := Scf.iv c0_i32_16 c1_i32_17 k0_t1
  let c4_i32_118 : BitVec 32 := 4#32
  let v206 : BitVec 32 := Scalar.muli arg16 c4_i32_118
  let c2_i32_119 : BitVec 32 := 2#32
  let v207 : BitVec 32 := Scalar.addi v206 c2_i32_119
  let c1_i32_120 : BitVec 32 := 1#32
  let v208 : BitVec 32 := Scalar.addi v207 c1_i32_120
  let c4_i32_205 : BitVec 32 := 4#32
  let v356 : BitVec 1 := Scalar.cmpi .sge v208 c4_i32_205
  let v357 : BitVec 32 := Scalar.extui v356
  let c0_i32_206 : BitVec 32 := 0#32
  let v358 : BitVec 1 := Scalar.cmpi .ne v357 c0_i32_206
  v358

def k0_off39 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_240 : BitVec 32 := 0#32
  let c512_i32_4 : BitVec 32 := 512#32
  let c0_i32_5 : BitVec 32 := 0#32
  let v20 : BitVec 1 := Scalar.cmpi .eq c512_i32_4 c0_i32_5
  let c1_i32_6 : BitVec 32 := 1#32
  let v21 : BitVec 32 := Scalar.select v20 c1_i32_6 c512_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c0_i32_16 : BitVec 32 := 0#32
  let c1_i32_17 : BitVec 32 := 1#32
  let arg16 : BitVec 32 := Scf.iv c0_i32_16 c1_i32_17 k0_t1
  let c4_i32_118 : BitVec 32 := 4#32
  let v206 : BitVec 32 := Scalar.muli arg16 c4_i32_118
  let c2_i32_119 : BitVec 32 := 2#32
  let v207 : BitVec 32 := Scalar.addi v206 c2_i32_119
  let c1_i32_120 : BitVec 32 := 1#32
  let v208 : BitVec 32 := Scalar.addi v207 c1_i32_120
  let c4_i32_224 : BitVec 32 := 4#32
  let v393 : BitVec 32 := Scalar.subi v208 c4_i32_224
  let c0_i32_226 : BitVec 32 := 0#32
  let v395 : BitVec 1 := Scalar.cmpi .sgt v393 c0_i32_226
  let v396 : BitVec 32 := Scalar.extui v395
  let c0_i32_227 : BitVec 32 := 0#32
  let v397 : BitVec 1 := Scalar.cmpi .slt v393 c0_i32_227
  let v398 : BitVec 32 := Scalar.extui v397
  let v399 : BitVec 32 := Scalar.subi v396 v398
  let c16_i32_225 : BitVec 32 := 16#32
  let c0_i32_228 : BitVec 32 := 0#32
  let v400 : BitVec 1 := Scalar.cmpi .sgt c16_i32_225 c0_i32_228
  let v401 : BitVec 32 := Scalar.extui v400
  let c0_i32_229 : BitVec 32 := 0#32
  let v402 : BitVec 1 := Scalar.cmpi .slt c16_i32_225 c0_i32_229
  let v403 : BitVec 32 := Scalar.extui v402
  let v404 : BitVec 32 := Scalar.subi v401 v403
  let v405 : BitVec 1 := Scalar.cmpi .ne v399 v404
  let v406 : BitVec 32 := Scalar.remsi v393 c16_i32_225
  let c0_i32_230 : BitVec 32 := 0#32
  let v407 : BitVec 1 := Scalar.cmpi .ne v406 c0_i32_230
  let v408 : BitVec 1 := Scalar.andi v405 v407
  let v394 : BitVec 32 := Scalar.divsi v393 c16_i32_225
  let c1_i32_231 : BitVec 32 := 1#32
  let v409 : BitVec 32 := Scalar.subi v394 c1_i32_231
  let v410 : BitVec 32 := Scalar.select v408 v409 v394
  let c8_i32_238 : BitVec 32 := 8#32
  let v421 : BitVec 32 := Scalar.muli v410 c8_i32_238
  let v422 : BitVec 32 := Scalar.addi v29 v421
  let c16_i32_232 : BitVec 32 := 16#32
  let c0_i32_233 : BitVec 32 := 0#32
  let v411 : BitVec 1 := Scalar.cmpi .eq c16_i32_232 c0_i32_233
  let c1_i32_234 : BitVec 32 := 1#32
  let v412 : BitVec 32 := Scalar.select v411 c1_i32_234 c16_i32_232
  let v413 : BitVec 32 := Scalar.remsi v393 v412
  let c0_i32_236 : BitVec 32 := 0#32
  let v415 : BitVec 1 := Scalar.cmpi .slt v413 c0_i32_236
  let c0_i32_237 : BitVec 32 := 0#32
  let v416 : BitVec 1 := Scalar.cmpi .slt v412 c0_i32_237
  let v417 : BitVec 1 := Scalar.xori v415 v416
  let c0_i32_235 : BitVec 32 := 0#32
  let v414 : BitVec 1 := Scalar.cmpi .ne v413 c0_i32_235
  let v418 : BitVec 1 := Scalar.andi v417 v414
  let v419 : BitVec 32 := Scalar.addi v413 v412
  let v420 : BitVec 32 := Scalar.select v418 v419 v413
  let c128_i32_239 : BitVec 32 := 128#32
  let v423 : BitVec 32 := Scalar.muli v420 c128_i32_239
  ![v19.toNat, 0, v422.toNat, v423.toNat]
def k0_off40 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_222 : BitVec 32 := 0#32
  let c512_i32_4 : BitVec 32 := 512#32
  let c0_i32_5 : BitVec 32 := 0#32
  let v20 : BitVec 1 := Scalar.cmpi .eq c512_i32_4 c0_i32_5
  let c1_i32_6 : BitVec 32 := 1#32
  let v21 : BitVec 32 := Scalar.select v20 c1_i32_6 c512_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c0_i32_16 : BitVec 32 := 0#32
  let c1_i32_17 : BitVec 32 := 1#32
  let arg16 : BitVec 32 := Scf.iv c0_i32_16 c1_i32_17 k0_t1
  let c4_i32_118 : BitVec 32 := 4#32
  let v206 : BitVec 32 := Scalar.muli arg16 c4_i32_118
  let c2_i32_119 : BitVec 32 := 2#32
  let v207 : BitVec 32 := Scalar.addi v206 c2_i32_119
  let c1_i32_120 : BitVec 32 := 1#32
  let v208 : BitVec 32 := Scalar.addi v207 c1_i32_120
  let c0_i32_208 : BitVec 32 := 0#32
  let v360 : BitVec 1 := Scalar.cmpi .sgt v208 c0_i32_208
  let v361 : BitVec 32 := Scalar.extui v360
  let c0_i32_209 : BitVec 32 := 0#32
  let v362 : BitVec 1 := Scalar.cmpi .slt v208 c0_i32_209
  let v363 : BitVec 32 := Scalar.extui v362
  let v364 : BitVec 32 := Scalar.subi v361 v363
  let c16_i32_207 : BitVec 32 := 16#32
  let c0_i32_210 : BitVec 32 := 0#32
  let v365 : BitVec 1 := Scalar.cmpi .sgt c16_i32_207 c0_i32_210
  let v366 : BitVec 32 := Scalar.extui v365
  let c0_i32_211 : BitVec 32 := 0#32
  let v367 : BitVec 1 := Scalar.cmpi .slt c16_i32_207 c0_i32_211
  let v368 : BitVec 32 := Scalar.extui v367
  let v369 : BitVec 32 := Scalar.subi v366 v368
  let v370 : BitVec 1 := Scalar.cmpi .ne v364 v369
  let v371 : BitVec 32 := Scalar.remsi v208 c16_i32_207
  let c0_i32_212 : BitVec 32 := 0#32
  let v372 : BitVec 1 := Scalar.cmpi .ne v371 c0_i32_212
  let v373 : BitVec 1 := Scalar.andi v370 v372
  let v359 : BitVec 32 := Scalar.divsi v208 c16_i32_207
  let c1_i32_213 : BitVec 32 := 1#32
  let v374 : BitVec 32 := Scalar.subi v359 c1_i32_213
  let v375 : BitVec 32 := Scalar.select v373 v374 v359
  let c8_i32_220 : BitVec 32 := 8#32
  let v386 : BitVec 32 := Scalar.muli v375 c8_i32_220
  let v387 : BitVec 32 := Scalar.addi v29 v386
  let c16_i32_214 : BitVec 32 := 16#32
  let c0_i32_215 : BitVec 32 := 0#32
  let v376 : BitVec 1 := Scalar.cmpi .eq c16_i32_214 c0_i32_215
  let c1_i32_216 : BitVec 32 := 1#32
  let v377 : BitVec 32 := Scalar.select v376 c1_i32_216 c16_i32_214
  let v378 : BitVec 32 := Scalar.remsi v208 v377
  let c0_i32_218 : BitVec 32 := 0#32
  let v380 : BitVec 1 := Scalar.cmpi .slt v378 c0_i32_218
  let c0_i32_219 : BitVec 32 := 0#32
  let v381 : BitVec 1 := Scalar.cmpi .slt v377 c0_i32_219
  let v382 : BitVec 1 := Scalar.xori v380 v381
  let c0_i32_217 : BitVec 32 := 0#32
  let v379 : BitVec 1 := Scalar.cmpi .ne v378 c0_i32_217
  let v383 : BitVec 1 := Scalar.andi v382 v379
  let v384 : BitVec 32 := Scalar.addi v378 v377
  let v385 : BitVec 32 := Scalar.select v383 v384 v378
  let c128_i32_221 : BitVec 32 := 128#32
  let v388 : BitVec 32 := Scalar.muli v385 c128_i32_221
  ![v19.toNat, 0, v387.toNat, v388.toNat]
@[reducible] def k0_t4_loop : Scf.Loop 32 :=
  let c0_i32_141 : BitVec 32 := 0#32
  let c64_i32_142 : BitVec 32 := 64#32
  let v246 : BitVec 32 := Scalar.addi c0_i32_141 c64_i32_142
  let c1_i32_143 : BitVec 32 := 1#32
  ⟨c0_i32_141, v246, c1_i32_143⟩
def k0_off41 (k0_t4 : Fin k0_t4_loop.trips) : Fin 3 → Nat :=
  let c0_i32_219 : BitVec 32 := 0#32
  let v384 : Index := Scalar.indexCast c0_i32_219
  let c0_i32_141 : BitVec 32 := 0#32
  let c1_i32_143 : BitVec 32 := 1#32
  let arg17 : BitVec 32 := Scf.iv c0_i32_141 c1_i32_143 k0_t4
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v385 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v386 : Index := Scalar.indexCast v383
  ![0, v385.toNat, v386.toNat]
def k0_off42 (k0_t4 : Fin k0_t4_loop.trips) : Fin 3 → Nat :=
  let c1_i32_220 : BitVec 32 := 1#32
  let v389 : Index := Scalar.indexCast c1_i32_220
  let c0_i32_141 : BitVec 32 := 0#32
  let c1_i32_143 : BitVec 32 := 1#32
  let arg17 : BitVec 32 := Scf.iv c0_i32_141 c1_i32_143 k0_t4
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v390 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v391 : Index := Scalar.indexCast v383
  ![1, v390.toNat, v391.toNat]
def k0_off43 (k0_t4 : Fin k0_t4_loop.trips) : Fin 3 → Nat :=
  let c2_i32_221 : BitVec 32 := 2#32
  let v394 : Index := Scalar.indexCast c2_i32_221
  let c0_i32_141 : BitVec 32 := 0#32
  let c1_i32_143 : BitVec 32 := 1#32
  let arg17 : BitVec 32 := Scf.iv c0_i32_141 c1_i32_143 k0_t4
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v395 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v396 : Index := Scalar.indexCast v383
  ![2, v395.toNat, v396.toNat]
def k0_off44 (k0_t4 : Fin k0_t4_loop.trips) : Fin 3 → Nat :=
  let c3_i32_222 : BitVec 32 := 3#32
  let v399 : Index := Scalar.indexCast c3_i32_222
  let c0_i32_141 : BitVec 32 := 0#32
  let c1_i32_143 : BitVec 32 := 1#32
  let arg17 : BitVec 32 := Scf.iv c0_i32_141 c1_i32_143 k0_t4
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v400 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v401 : Index := Scalar.indexCast v383
  ![3, v400.toNat, v401.toNat]
def k0_off45 (k0_t4 : Fin k0_t4_loop.trips) : Fin 3 → Nat :=
  let c4_i32_223 : BitVec 32 := 4#32
  let v404 : Index := Scalar.indexCast c4_i32_223
  let c0_i32_141 : BitVec 32 := 0#32
  let c1_i32_143 : BitVec 32 := 1#32
  let arg17 : BitVec 32 := Scf.iv c0_i32_141 c1_i32_143 k0_t4
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v405 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v406 : Index := Scalar.indexCast v383
  ![4, v405.toNat, v406.toNat]
def k0_off46 (k0_t4 : Fin k0_t4_loop.trips) : Fin 3 → Nat :=
  let c5_i32 : BitVec 32 := 5#32
  let v409 : Index := Scalar.indexCast c5_i32
  let c0_i32_141 : BitVec 32 := 0#32
  let c1_i32_143 : BitVec 32 := 1#32
  let arg17 : BitVec 32 := Scf.iv c0_i32_141 c1_i32_143 k0_t4
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v410 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v411 : Index := Scalar.indexCast v383
  ![5, v410.toNat, v411.toNat]
def k0_off47 (k0_t4 : Fin k0_t4_loop.trips) : Fin 3 → Nat :=
  let c6_i32 : BitVec 32 := 6#32
  let v414 : Index := Scalar.indexCast c6_i32
  let c0_i32_141 : BitVec 32 := 0#32
  let c1_i32_143 : BitVec 32 := 1#32
  let arg17 : BitVec 32 := Scf.iv c0_i32_141 c1_i32_143 k0_t4
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v415 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v416 : Index := Scalar.indexCast v383
  ![6, v415.toNat, v416.toNat]
def k0_off48 (k0_t4 : Fin k0_t4_loop.trips) : Fin 3 → Nat :=
  let c7_i32 : BitVec 32 := 7#32
  let v419 : Index := Scalar.indexCast c7_i32
  let c0_i32_141 : BitVec 32 := 0#32
  let c1_i32_143 : BitVec 32 := 1#32
  let arg17 : BitVec 32 := Scf.iv c0_i32_141 c1_i32_143 k0_t4
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v420 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v421 : Index := Scalar.indexCast v383
  ![7, v420.toNat, v421.toNat]
def k0_off49 (k0_t4 : Fin k0_t4_loop.trips) : Fin 3 → Nat :=
  let c8_i32_224 : BitVec 32 := 8#32
  let v424 : Index := Scalar.indexCast c8_i32_224
  let c0_i32_141 : BitVec 32 := 0#32
  let c1_i32_143 : BitVec 32 := 1#32
  let arg17 : BitVec 32 := Scf.iv c0_i32_141 c1_i32_143 k0_t4
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v425 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v426 : Index := Scalar.indexCast v383
  ![8, v425.toNat, v426.toNat]
def k0_off50 (k0_t4 : Fin k0_t4_loop.trips) : Fin 3 → Nat :=
  let c9_i32 : BitVec 32 := 9#32
  let v429 : Index := Scalar.indexCast c9_i32
  let c0_i32_141 : BitVec 32 := 0#32
  let c1_i32_143 : BitVec 32 := 1#32
  let arg17 : BitVec 32 := Scf.iv c0_i32_141 c1_i32_143 k0_t4
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v430 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v431 : Index := Scalar.indexCast v383
  ![9, v430.toNat, v431.toNat]
def k0_off51 (k0_t4 : Fin k0_t4_loop.trips) : Fin 3 → Nat :=
  let c10_i32 : BitVec 32 := 10#32
  let v434 : Index := Scalar.indexCast c10_i32
  let c0_i32_141 : BitVec 32 := 0#32
  let c1_i32_143 : BitVec 32 := 1#32
  let arg17 : BitVec 32 := Scf.iv c0_i32_141 c1_i32_143 k0_t4
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v435 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v436 : Index := Scalar.indexCast v383
  ![10, v435.toNat, v436.toNat]
def k0_off52 (k0_t4 : Fin k0_t4_loop.trips) : Fin 3 → Nat :=
  let c11_i32 : BitVec 32 := 11#32
  let v439 : Index := Scalar.indexCast c11_i32
  let c0_i32_141 : BitVec 32 := 0#32
  let c1_i32_143 : BitVec 32 := 1#32
  let arg17 : BitVec 32 := Scf.iv c0_i32_141 c1_i32_143 k0_t4
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v440 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v441 : Index := Scalar.indexCast v383
  ![11, v440.toNat, v441.toNat]
def k0_off53 (k0_t4 : Fin k0_t4_loop.trips) : Fin 3 → Nat :=
  let c12_i32 : BitVec 32 := 12#32
  let v444 : Index := Scalar.indexCast c12_i32
  let c0_i32_141 : BitVec 32 := 0#32
  let c1_i32_143 : BitVec 32 := 1#32
  let arg17 : BitVec 32 := Scf.iv c0_i32_141 c1_i32_143 k0_t4
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v445 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v446 : Index := Scalar.indexCast v383
  ![12, v445.toNat, v446.toNat]
def k0_off54 (k0_t4 : Fin k0_t4_loop.trips) : Fin 3 → Nat :=
  let c13_i32 : BitVec 32 := 13#32
  let v449 : Index := Scalar.indexCast c13_i32
  let c0_i32_141 : BitVec 32 := 0#32
  let c1_i32_143 : BitVec 32 := 1#32
  let arg17 : BitVec 32 := Scf.iv c0_i32_141 c1_i32_143 k0_t4
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v450 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v451 : Index := Scalar.indexCast v383
  ![13, v450.toNat, v451.toNat]
def k0_off55 (k0_t4 : Fin k0_t4_loop.trips) : Fin 3 → Nat :=
  let c14_i32 : BitVec 32 := 14#32
  let v454 : Index := Scalar.indexCast c14_i32
  let c0_i32_141 : BitVec 32 := 0#32
  let c1_i32_143 : BitVec 32 := 1#32
  let arg17 : BitVec 32 := Scf.iv c0_i32_141 c1_i32_143 k0_t4
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v455 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v456 : Index := Scalar.indexCast v383
  ![14, v455.toNat, v456.toNat]
def k0_off56 (k0_t4 : Fin k0_t4_loop.trips) : Fin 3 → Nat :=
  let c15_i32 : BitVec 32 := 15#32
  let v459 : Index := Scalar.indexCast c15_i32
  let c0_i32_141 : BitVec 32 := 0#32
  let c1_i32_143 : BitVec 32 := 1#32
  let arg17 : BitVec 32 := Scf.iv c0_i32_141 c1_i32_143 k0_t4
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v460 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v461 : Index := Scalar.indexCast v383
  ![15, v460.toNat, v461.toNat]
def k0_cond7 (k0_t1 : Fin k0_t1_loop.trips) : BitVec 1 :=
  let c0_i32_16 : BitVec 32 := 0#32
  let c1_i32_17 : BitVec 32 := 1#32
  let arg16 : BitVec 32 := Scf.iv c0_i32_16 c1_i32_17 k0_t1
  let c4_i32_162 : BitVec 32 := 4#32
  let v281 : BitVec 32 := Scalar.muli arg16 c4_i32_162
  let c3_i32 : BitVec 32 := 3#32
  let v282 : BitVec 32 := Scalar.addi v281 c3_i32
  let c1_i32_163 : BitVec 32 := 1#32
  let v283 : BitVec 32 := Scalar.addi v282 c1_i32_163
  let c64_i32_164 : BitVec 32 := 64#32
  let v284 : BitVec 1 := Scalar.cmpi .slt v283 c64_i32_164
  let v285 : BitVec 32 := Scalar.extui v284
  let c0_i32_165 : BitVec 32 := 0#32
  let v286 : BitVec 1 := Scalar.cmpi .ne v285 c0_i32_165
  v286

def k0_cond8 (k0_t1 : Fin k0_t1_loop.trips) : BitVec 1 :=
  let c0_i32_16 : BitVec 32 := 0#32
  let c1_i32_17 : BitVec 32 := 1#32
  let arg16 : BitVec 32 := Scf.iv c0_i32_16 c1_i32_17 k0_t1
  let c4_i32_162 : BitVec 32 := 4#32
  let v281 : BitVec 32 := Scalar.muli arg16 c4_i32_162
  let c3_i32 : BitVec 32 := 3#32
  let v282 : BitVec 32 := Scalar.addi v281 c3_i32
  let c1_i32_163 : BitVec 32 := 1#32
  let v283 : BitVec 32 := Scalar.addi v282 c1_i32_163
  let c4_i32_205 : BitVec 32 := 4#32
  let v356 : BitVec 1 := Scalar.cmpi .sge v283 c4_i32_205
  let v357 : BitVec 32 := Scalar.extui v356
  let c0_i32_206 : BitVec 32 := 0#32
  let v358 : BitVec 1 := Scalar.cmpi .ne v357 c0_i32_206
  v358

def k0_off57 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_240 : BitVec 32 := 0#32
  let c512_i32_4 : BitVec 32 := 512#32
  let c0_i32_5 : BitVec 32 := 0#32
  let v20 : BitVec 1 := Scalar.cmpi .eq c512_i32_4 c0_i32_5
  let c1_i32_6 : BitVec 32 := 1#32
  let v21 : BitVec 32 := Scalar.select v20 c1_i32_6 c512_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c0_i32_16 : BitVec 32 := 0#32
  let c1_i32_17 : BitVec 32 := 1#32
  let arg16 : BitVec 32 := Scf.iv c0_i32_16 c1_i32_17 k0_t1
  let c4_i32_162 : BitVec 32 := 4#32
  let v281 : BitVec 32 := Scalar.muli arg16 c4_i32_162
  let c3_i32 : BitVec 32 := 3#32
  let v282 : BitVec 32 := Scalar.addi v281 c3_i32
  let c1_i32_163 : BitVec 32 := 1#32
  let v283 : BitVec 32 := Scalar.addi v282 c1_i32_163
  let c4_i32_224 : BitVec 32 := 4#32
  let v393 : BitVec 32 := Scalar.subi v283 c4_i32_224
  let c0_i32_226 : BitVec 32 := 0#32
  let v395 : BitVec 1 := Scalar.cmpi .sgt v393 c0_i32_226
  let v396 : BitVec 32 := Scalar.extui v395
  let c0_i32_227 : BitVec 32 := 0#32
  let v397 : BitVec 1 := Scalar.cmpi .slt v393 c0_i32_227
  let v398 : BitVec 32 := Scalar.extui v397
  let v399 : BitVec 32 := Scalar.subi v396 v398
  let c16_i32_225 : BitVec 32 := 16#32
  let c0_i32_228 : BitVec 32 := 0#32
  let v400 : BitVec 1 := Scalar.cmpi .sgt c16_i32_225 c0_i32_228
  let v401 : BitVec 32 := Scalar.extui v400
  let c0_i32_229 : BitVec 32 := 0#32
  let v402 : BitVec 1 := Scalar.cmpi .slt c16_i32_225 c0_i32_229
  let v403 : BitVec 32 := Scalar.extui v402
  let v404 : BitVec 32 := Scalar.subi v401 v403
  let v405 : BitVec 1 := Scalar.cmpi .ne v399 v404
  let v406 : BitVec 32 := Scalar.remsi v393 c16_i32_225
  let c0_i32_230 : BitVec 32 := 0#32
  let v407 : BitVec 1 := Scalar.cmpi .ne v406 c0_i32_230
  let v408 : BitVec 1 := Scalar.andi v405 v407
  let v394 : BitVec 32 := Scalar.divsi v393 c16_i32_225
  let c1_i32_231 : BitVec 32 := 1#32
  let v409 : BitVec 32 := Scalar.subi v394 c1_i32_231
  let v410 : BitVec 32 := Scalar.select v408 v409 v394
  let c8_i32_238 : BitVec 32 := 8#32
  let v421 : BitVec 32 := Scalar.muli v410 c8_i32_238
  let v422 : BitVec 32 := Scalar.addi v29 v421
  let c16_i32_232 : BitVec 32 := 16#32
  let c0_i32_233 : BitVec 32 := 0#32
  let v411 : BitVec 1 := Scalar.cmpi .eq c16_i32_232 c0_i32_233
  let c1_i32_234 : BitVec 32 := 1#32
  let v412 : BitVec 32 := Scalar.select v411 c1_i32_234 c16_i32_232
  let v413 : BitVec 32 := Scalar.remsi v393 v412
  let c0_i32_236 : BitVec 32 := 0#32
  let v415 : BitVec 1 := Scalar.cmpi .slt v413 c0_i32_236
  let c0_i32_237 : BitVec 32 := 0#32
  let v416 : BitVec 1 := Scalar.cmpi .slt v412 c0_i32_237
  let v417 : BitVec 1 := Scalar.xori v415 v416
  let c0_i32_235 : BitVec 32 := 0#32
  let v414 : BitVec 1 := Scalar.cmpi .ne v413 c0_i32_235
  let v418 : BitVec 1 := Scalar.andi v417 v414
  let v419 : BitVec 32 := Scalar.addi v413 v412
  let v420 : BitVec 32 := Scalar.select v418 v419 v413
  let c128_i32_239 : BitVec 32 := 128#32
  let v423 : BitVec 32 := Scalar.muli v420 c128_i32_239
  ![v19.toNat, 0, v422.toNat, v423.toNat]
def k0_off58 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_222 : BitVec 32 := 0#32
  let c512_i32_4 : BitVec 32 := 512#32
  let c0_i32_5 : BitVec 32 := 0#32
  let v20 : BitVec 1 := Scalar.cmpi .eq c512_i32_4 c0_i32_5
  let c1_i32_6 : BitVec 32 := 1#32
  let v21 : BitVec 32 := Scalar.select v20 c1_i32_6 c512_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c0_i32_16 : BitVec 32 := 0#32
  let c1_i32_17 : BitVec 32 := 1#32
  let arg16 : BitVec 32 := Scf.iv c0_i32_16 c1_i32_17 k0_t1
  let c4_i32_162 : BitVec 32 := 4#32
  let v281 : BitVec 32 := Scalar.muli arg16 c4_i32_162
  let c3_i32 : BitVec 32 := 3#32
  let v282 : BitVec 32 := Scalar.addi v281 c3_i32
  let c1_i32_163 : BitVec 32 := 1#32
  let v283 : BitVec 32 := Scalar.addi v282 c1_i32_163
  let c0_i32_208 : BitVec 32 := 0#32
  let v360 : BitVec 1 := Scalar.cmpi .sgt v283 c0_i32_208
  let v361 : BitVec 32 := Scalar.extui v360
  let c0_i32_209 : BitVec 32 := 0#32
  let v362 : BitVec 1 := Scalar.cmpi .slt v283 c0_i32_209
  let v363 : BitVec 32 := Scalar.extui v362
  let v364 : BitVec 32 := Scalar.subi v361 v363
  let c16_i32_207 : BitVec 32 := 16#32
  let c0_i32_210 : BitVec 32 := 0#32
  let v365 : BitVec 1 := Scalar.cmpi .sgt c16_i32_207 c0_i32_210
  let v366 : BitVec 32 := Scalar.extui v365
  let c0_i32_211 : BitVec 32 := 0#32
  let v367 : BitVec 1 := Scalar.cmpi .slt c16_i32_207 c0_i32_211
  let v368 : BitVec 32 := Scalar.extui v367
  let v369 : BitVec 32 := Scalar.subi v366 v368
  let v370 : BitVec 1 := Scalar.cmpi .ne v364 v369
  let v371 : BitVec 32 := Scalar.remsi v283 c16_i32_207
  let c0_i32_212 : BitVec 32 := 0#32
  let v372 : BitVec 1 := Scalar.cmpi .ne v371 c0_i32_212
  let v373 : BitVec 1 := Scalar.andi v370 v372
  let v359 : BitVec 32 := Scalar.divsi v283 c16_i32_207
  let c1_i32_213 : BitVec 32 := 1#32
  let v374 : BitVec 32 := Scalar.subi v359 c1_i32_213
  let v375 : BitVec 32 := Scalar.select v373 v374 v359
  let c8_i32_220 : BitVec 32 := 8#32
  let v386 : BitVec 32 := Scalar.muli v375 c8_i32_220
  let v387 : BitVec 32 := Scalar.addi v29 v386
  let c16_i32_214 : BitVec 32 := 16#32
  let c0_i32_215 : BitVec 32 := 0#32
  let v376 : BitVec 1 := Scalar.cmpi .eq c16_i32_214 c0_i32_215
  let c1_i32_216 : BitVec 32 := 1#32
  let v377 : BitVec 32 := Scalar.select v376 c1_i32_216 c16_i32_214
  let v378 : BitVec 32 := Scalar.remsi v283 v377
  let c0_i32_218 : BitVec 32 := 0#32
  let v380 : BitVec 1 := Scalar.cmpi .slt v378 c0_i32_218
  let c0_i32_219 : BitVec 32 := 0#32
  let v381 : BitVec 1 := Scalar.cmpi .slt v377 c0_i32_219
  let v382 : BitVec 1 := Scalar.xori v380 v381
  let c0_i32_217 : BitVec 32 := 0#32
  let v379 : BitVec 1 := Scalar.cmpi .ne v378 c0_i32_217
  let v383 : BitVec 1 := Scalar.andi v382 v379
  let v384 : BitVec 32 := Scalar.addi v378 v377
  let v385 : BitVec 32 := Scalar.select v383 v384 v378
  let c128_i32_221 : BitVec 32 := 128#32
  let v388 : BitVec 32 := Scalar.muli v385 c128_i32_221
  ![v19.toNat, 0, v387.toNat, v388.toNat]
@[reducible] def k0_t5_loop : Scf.Loop 32 :=
  let c0_i32_184 : BitVec 32 := 0#32
  let c64_i32_185 : BitVec 32 := 64#32
  let v321 : BitVec 32 := Scalar.addi c0_i32_184 c64_i32_185
  let c1_i32_186 : BitVec 32 := 1#32
  ⟨c0_i32_184, v321, c1_i32_186⟩
def k0_off59 (k0_t5 : Fin k0_t5_loop.trips) : Fin 3 → Nat :=
  let c0_i32_219 : BitVec 32 := 0#32
  let v384 : Index := Scalar.indexCast c0_i32_219
  let c0_i32_184 : BitVec 32 := 0#32
  let c1_i32_186 : BitVec 32 := 1#32
  let arg17 : BitVec 32 := Scf.iv c0_i32_184 c1_i32_186 k0_t5
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v385 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v386 : Index := Scalar.indexCast v383
  ![0, v385.toNat, v386.toNat]
def k0_off60 (k0_t5 : Fin k0_t5_loop.trips) : Fin 3 → Nat :=
  let c1_i32_220 : BitVec 32 := 1#32
  let v389 : Index := Scalar.indexCast c1_i32_220
  let c0_i32_184 : BitVec 32 := 0#32
  let c1_i32_186 : BitVec 32 := 1#32
  let arg17 : BitVec 32 := Scf.iv c0_i32_184 c1_i32_186 k0_t5
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v390 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v391 : Index := Scalar.indexCast v383
  ![1, v390.toNat, v391.toNat]
def k0_off61 (k0_t5 : Fin k0_t5_loop.trips) : Fin 3 → Nat :=
  let c2_i32_221 : BitVec 32 := 2#32
  let v394 : Index := Scalar.indexCast c2_i32_221
  let c0_i32_184 : BitVec 32 := 0#32
  let c1_i32_186 : BitVec 32 := 1#32
  let arg17 : BitVec 32 := Scf.iv c0_i32_184 c1_i32_186 k0_t5
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v395 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v396 : Index := Scalar.indexCast v383
  ![2, v395.toNat, v396.toNat]
def k0_off62 (k0_t5 : Fin k0_t5_loop.trips) : Fin 3 → Nat :=
  let c3_i32_222 : BitVec 32 := 3#32
  let v399 : Index := Scalar.indexCast c3_i32_222
  let c0_i32_184 : BitVec 32 := 0#32
  let c1_i32_186 : BitVec 32 := 1#32
  let arg17 : BitVec 32 := Scf.iv c0_i32_184 c1_i32_186 k0_t5
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v400 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v401 : Index := Scalar.indexCast v383
  ![3, v400.toNat, v401.toNat]
def k0_off63 (k0_t5 : Fin k0_t5_loop.trips) : Fin 3 → Nat :=
  let c4_i32_223 : BitVec 32 := 4#32
  let v404 : Index := Scalar.indexCast c4_i32_223
  let c0_i32_184 : BitVec 32 := 0#32
  let c1_i32_186 : BitVec 32 := 1#32
  let arg17 : BitVec 32 := Scf.iv c0_i32_184 c1_i32_186 k0_t5
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v405 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v406 : Index := Scalar.indexCast v383
  ![4, v405.toNat, v406.toNat]
def k0_off64 (k0_t5 : Fin k0_t5_loop.trips) : Fin 3 → Nat :=
  let c5_i32 : BitVec 32 := 5#32
  let v409 : Index := Scalar.indexCast c5_i32
  let c0_i32_184 : BitVec 32 := 0#32
  let c1_i32_186 : BitVec 32 := 1#32
  let arg17 : BitVec 32 := Scf.iv c0_i32_184 c1_i32_186 k0_t5
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v410 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v411 : Index := Scalar.indexCast v383
  ![5, v410.toNat, v411.toNat]
def k0_off65 (k0_t5 : Fin k0_t5_loop.trips) : Fin 3 → Nat :=
  let c6_i32 : BitVec 32 := 6#32
  let v414 : Index := Scalar.indexCast c6_i32
  let c0_i32_184 : BitVec 32 := 0#32
  let c1_i32_186 : BitVec 32 := 1#32
  let arg17 : BitVec 32 := Scf.iv c0_i32_184 c1_i32_186 k0_t5
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v415 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v416 : Index := Scalar.indexCast v383
  ![6, v415.toNat, v416.toNat]
def k0_off66 (k0_t5 : Fin k0_t5_loop.trips) : Fin 3 → Nat :=
  let c7_i32 : BitVec 32 := 7#32
  let v419 : Index := Scalar.indexCast c7_i32
  let c0_i32_184 : BitVec 32 := 0#32
  let c1_i32_186 : BitVec 32 := 1#32
  let arg17 : BitVec 32 := Scf.iv c0_i32_184 c1_i32_186 k0_t5
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v420 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v421 : Index := Scalar.indexCast v383
  ![7, v420.toNat, v421.toNat]
def k0_off67 (k0_t5 : Fin k0_t5_loop.trips) : Fin 3 → Nat :=
  let c8_i32_224 : BitVec 32 := 8#32
  let v424 : Index := Scalar.indexCast c8_i32_224
  let c0_i32_184 : BitVec 32 := 0#32
  let c1_i32_186 : BitVec 32 := 1#32
  let arg17 : BitVec 32 := Scf.iv c0_i32_184 c1_i32_186 k0_t5
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v425 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v426 : Index := Scalar.indexCast v383
  ![8, v425.toNat, v426.toNat]
def k0_off68 (k0_t5 : Fin k0_t5_loop.trips) : Fin 3 → Nat :=
  let c9_i32 : BitVec 32 := 9#32
  let v429 : Index := Scalar.indexCast c9_i32
  let c0_i32_184 : BitVec 32 := 0#32
  let c1_i32_186 : BitVec 32 := 1#32
  let arg17 : BitVec 32 := Scf.iv c0_i32_184 c1_i32_186 k0_t5
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v430 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v431 : Index := Scalar.indexCast v383
  ![9, v430.toNat, v431.toNat]
def k0_off69 (k0_t5 : Fin k0_t5_loop.trips) : Fin 3 → Nat :=
  let c10_i32 : BitVec 32 := 10#32
  let v434 : Index := Scalar.indexCast c10_i32
  let c0_i32_184 : BitVec 32 := 0#32
  let c1_i32_186 : BitVec 32 := 1#32
  let arg17 : BitVec 32 := Scf.iv c0_i32_184 c1_i32_186 k0_t5
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v435 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v436 : Index := Scalar.indexCast v383
  ![10, v435.toNat, v436.toNat]
def k0_off70 (k0_t5 : Fin k0_t5_loop.trips) : Fin 3 → Nat :=
  let c11_i32 : BitVec 32 := 11#32
  let v439 : Index := Scalar.indexCast c11_i32
  let c0_i32_184 : BitVec 32 := 0#32
  let c1_i32_186 : BitVec 32 := 1#32
  let arg17 : BitVec 32 := Scf.iv c0_i32_184 c1_i32_186 k0_t5
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v440 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v441 : Index := Scalar.indexCast v383
  ![11, v440.toNat, v441.toNat]
def k0_off71 (k0_t5 : Fin k0_t5_loop.trips) : Fin 3 → Nat :=
  let c12_i32 : BitVec 32 := 12#32
  let v444 : Index := Scalar.indexCast c12_i32
  let c0_i32_184 : BitVec 32 := 0#32
  let c1_i32_186 : BitVec 32 := 1#32
  let arg17 : BitVec 32 := Scf.iv c0_i32_184 c1_i32_186 k0_t5
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v445 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v446 : Index := Scalar.indexCast v383
  ![12, v445.toNat, v446.toNat]
def k0_off72 (k0_t5 : Fin k0_t5_loop.trips) : Fin 3 → Nat :=
  let c13_i32 : BitVec 32 := 13#32
  let v449 : Index := Scalar.indexCast c13_i32
  let c0_i32_184 : BitVec 32 := 0#32
  let c1_i32_186 : BitVec 32 := 1#32
  let arg17 : BitVec 32 := Scf.iv c0_i32_184 c1_i32_186 k0_t5
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v450 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v451 : Index := Scalar.indexCast v383
  ![13, v450.toNat, v451.toNat]
def k0_off73 (k0_t5 : Fin k0_t5_loop.trips) : Fin 3 → Nat :=
  let c14_i32 : BitVec 32 := 14#32
  let v454 : Index := Scalar.indexCast c14_i32
  let c0_i32_184 : BitVec 32 := 0#32
  let c1_i32_186 : BitVec 32 := 1#32
  let arg17 : BitVec 32 := Scf.iv c0_i32_184 c1_i32_186 k0_t5
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v455 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v456 : Index := Scalar.indexCast v383
  ![14, v455.toNat, v456.toNat]
def k0_off74 (k0_t5 : Fin k0_t5_loop.trips) : Fin 3 → Nat :=
  let c15_i32 : BitVec 32 := 15#32
  let v459 : Index := Scalar.indexCast c15_i32
  let c0_i32_184 : BitVec 32 := 0#32
  let c1_i32_186 : BitVec 32 := 1#32
  let arg17 : BitVec 32 := Scf.iv c0_i32_184 c1_i32_186 k0_t5
  let c0_i32_206 : BitVec 32 := 0#32
  let v357 : BitVec 1 := Scalar.cmpi .sgt arg17 c0_i32_206
  let v358 : BitVec 32 := Scalar.extui v357
  let c0_i32_207 : BitVec 32 := 0#32
  let v359 : BitVec 1 := Scalar.cmpi .slt arg17 c0_i32_207
  let v360 : BitVec 32 := Scalar.extui v359
  let v361 : BitVec 32 := Scalar.subi v358 v360
  let c8_i32_205 : BitVec 32 := 8#32
  let c0_i32_208 : BitVec 32 := 0#32
  let v362 : BitVec 1 := Scalar.cmpi .sgt c8_i32_205 c0_i32_208
  let v363 : BitVec 32 := Scalar.extui v362
  let c0_i32_209 : BitVec 32 := 0#32
  let v364 : BitVec 1 := Scalar.cmpi .slt c8_i32_205 c0_i32_209
  let v365 : BitVec 32 := Scalar.extui v364
  let v366 : BitVec 32 := Scalar.subi v363 v365
  let v367 : BitVec 1 := Scalar.cmpi .ne v361 v366
  let v368 : BitVec 32 := Scalar.remsi arg17 c8_i32_205
  let c0_i32_210 : BitVec 32 := 0#32
  let v369 : BitVec 1 := Scalar.cmpi .ne v368 c0_i32_210
  let v370 : BitVec 1 := Scalar.andi v367 v369
  let v356 : BitVec 32 := Scalar.divsi arg17 c8_i32_205
  let c1_i32_211 : BitVec 32 := 1#32
  let v371 : BitVec 32 := Scalar.subi v356 c1_i32_211
  let v372 : BitVec 32 := Scalar.select v370 v371 v356
  let v460 : Index := Scalar.indexCast v372
  let c8_i32_212 : BitVec 32 := 8#32
  let c0_i32_213 : BitVec 32 := 0#32
  let v373 : BitVec 1 := Scalar.cmpi .eq c8_i32_212 c0_i32_213
  let c1_i32_214 : BitVec 32 := 1#32
  let v374 : BitVec 32 := Scalar.select v373 c1_i32_214 c8_i32_212
  let v375 : BitVec 32 := Scalar.remsi arg17 v374
  let c0_i32_216 : BitVec 32 := 0#32
  let v377 : BitVec 1 := Scalar.cmpi .slt v375 c0_i32_216
  let c0_i32_217 : BitVec 32 := 0#32
  let v378 : BitVec 1 := Scalar.cmpi .slt v374 c0_i32_217
  let v379 : BitVec 1 := Scalar.xori v377 v378
  let c0_i32_215 : BitVec 32 := 0#32
  let v376 : BitVec 1 := Scalar.cmpi .ne v375 c0_i32_215
  let v380 : BitVec 1 := Scalar.andi v379 v376
  let v381 : BitVec 32 := Scalar.addi v375 v374
  let v382 : BitVec 32 := Scalar.select v380 v381 v375
  let c16_i32_218 : BitVec 32 := 16#32
  let v383 : BitVec 32 := Scalar.muli v382 c16_i32_218
  let v461 : Index := Scalar.indexCast v383
  ![15, v460.toNat, v461.toNat]
def k0_off75 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_19 : BitVec 32 := 0#32
  let c512_i32_4 : BitVec 32 := 512#32
  let c0_i32_5 : BitVec 32 := 0#32
  let v20 : BitVec 1 := Scalar.cmpi .eq c512_i32_4 c0_i32_5
  let c1_i32_6 : BitVec 32 := 1#32
  let v21 : BitVec 32 := Scalar.select v20 c1_i32_6 c512_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c24_i32 : BitVec 32 := 24#32
  let v36 : BitVec 32 := Scalar.addi v29 c24_i32
  let c1536_i32 : BitVec 32 := 1536#32
  ![v19.toNat, 0, v36.toNat, 1536]
def k0_off76 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_23 : BitVec 32 := 0#32
  let c512_i32_4 : BitVec 32 := 512#32
  let c0_i32_5 : BitVec 32 := 0#32
  let v20 : BitVec 1 := Scalar.cmpi .eq c512_i32_4 c0_i32_5
  let c1_i32_6 : BitVec 32 := 1#32
  let v21 : BitVec 32 := Scalar.select v20 c1_i32_6 c512_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c24_i32_22 : BitVec 32 := 24#32
  let v41 : BitVec 32 := Scalar.addi v29 c24_i32_22
  let c1664_i32 : BitVec 32 := 1664#32
  ![v19.toNat, 0, v41.toNat, 1664]
def k0_off77 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_27 : BitVec 32 := 0#32
  let c512_i32_4 : BitVec 32 := 512#32
  let c0_i32_5 : BitVec 32 := 0#32
  let v20 : BitVec 1 := Scalar.cmpi .eq c512_i32_4 c0_i32_5
  let c1_i32_6 : BitVec 32 := 1#32
  let v21 : BitVec 32 := Scalar.select v20 c1_i32_6 c512_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c24_i32_26 : BitVec 32 := 24#32
  let v46 : BitVec 32 := Scalar.addi v29 c24_i32_26
  let c1792_i32 : BitVec 32 := 1792#32
  ![v19.toNat, 0, v46.toNat, 1792]
def k0_off78 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_31 : BitVec 32 := 0#32
  let c512_i32_4 : BitVec 32 := 512#32
  let c0_i32_5 : BitVec 32 := 0#32
  let v20 : BitVec 1 := Scalar.cmpi .eq c512_i32_4 c0_i32_5
  let c1_i32_6 : BitVec 32 := 1#32
  let v21 : BitVec 32 := Scalar.select v20 c1_i32_6 c512_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c24_i32_30 : BitVec 32 := 24#32
  let v51 : BitVec 32 := Scalar.addi v29 c24_i32_30
  let c1920_i32 : BitVec 32 := 1920#32
  ![v19.toNat, 0, v51.toNat, 1920]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x16x512x2048 : Shape := ⟨4, ![2, 16, 512, 2048]⟩
abbrev S2x512x2048x16 : Shape := ⟨4, ![2, 512, 2048, 16]⟩
abbrev S2097152x16 : Shape := ⟨2, ![2097152, 16]⟩
abbrev S2097152x5 : Shape := ⟨2, ![2097152, 5]⟩
abbrev S2097152x1 : Shape := ⟨2, ![2097152, 1]⟩
abbrev S2097152 : Shape := ⟨1, ![2097152]⟩
abbrev S_ : Shape := ⟨0, ![]⟩
abbrev S16384x2048 : Shape := ⟨2, ![16384, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2x16x512x2048, .f32⟩
  | .hbm, ⟨1, _⟩ => ⟨S2x512x2048x16, .f32⟩
  | .hbm, ⟨2, _⟩ => ⟨S2097152x16, .f32⟩
  | .hbm, ⟨3, _⟩ => ⟨S2097152x5, .f32⟩
  | .hbm, ⟨4, _⟩ => ⟨S2097152x5, .i32⟩
  | .hbm, ⟨5, _⟩ => ⟨S2097152x1, .f32⟩
  | .hbm, ⟨6, _⟩ => ⟨S2097152, .f32⟩
  | .hbm, ⟨7, _⟩ => ⟨S2097152x1, .f32⟩
  | .hbm, ⟨8, _⟩ => ⟨S_, .f32⟩
  | .hbm, ⟨9, _⟩ => ⟨S2097152x1, .f32⟩
  | .hbm, ⟨10, _⟩ => ⟨S2097152x1, .f32⟩
  | .hbm, ⟨11, _⟩ => ⟨S2097152x16, .f32⟩
  | .hbm, ⟨12, _⟩ => ⟨S2097152x16, .i1⟩
  | .hbm, ⟨13, _⟩ => ⟨S2097152x16, .f32⟩
  | .hbm, ⟨14, _⟩ => ⟨S2097152x16, .f32⟩
  | .hbm, ⟨15, _⟩ => ⟨S2x512x2048x16, .f32⟩
  | .hbm, ⟨16, _⟩ => ⟨S2x16x512x2048, .f32⟩
  | .hbm, ⟨17, _⟩ => ⟨S16384x2048, .f32⟩
  | .hbm, ⟨18, _⟩ => ⟨S2x16x512x2048, .f32⟩
  | _, _ => ⟨S2x16x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_values : Ref sig .tc := ⟨.hbm, 3, rfl⟩
abbrev main_indices : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Proof.IdealSlot.lean ====
/-
  One slot of the tile's ring: the sixteen loads and sixteen stores of a trip of the compute loop over a staging
  buffer of shape 16 × 8 × 128, and the loop's 64 trips.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.Tactic
public import Idealize.ShloMosaic.Lib.ValueIdx

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The transfers' counters. -/
abbrev EC : UEmb Counters (MT nD τ sig (HIx 1) (Elt F) ℕ UU ℕ) := countersEmb

/-- The tile at grid coordinates `i`, on device `d`. -/
abbrev tile (d : Dev nD) (i : grid0.Coords) : Thread nD τ := V d ((i 0).castLE hcore0) ((i 1).castLE hsub0)

/-- A whole buffer of shape `s`, held by the tile, that reads `v`. -/
def own {sp : Space} {s : Shape} (d : Dev nD) (i : grid0.Coords) (B : Memref sig .scVector sp s .f32) (v : s.Idx → Elt F .f32) : sProp 𝕄 :=
  iprop(∃ f : Buf (Elt F) (B.view.loc (tile d i)), ⌜B.view.read (Elt F) f = v⌝ ∗ (B.view.loc (tile d i) ↦{fullShare} f))

variable [FloatOps F]

/-! ## What one trip computes -/

/-- The sixteen lanes of feature `m` that trip `k` works on: row `k / 8`, columns `16 (k % 8) …`. -/
def laneIdx (k : ℕ) (m : Fin 16) (x : S1x1x16.Idx) : S16x8x128.Idx :=
  ix3 m ⟨k / 8 % 8, Nat.mod_lt _ (by decide)⟩ ⟨(k % 8 * 16 + (x 2 : Fin 16).val) % 128, Nat.mod_lt _ (by decide)⟩

/-- The sixteen features' lanes at trip `k`. -/
def lanes (v : S16x8x128.Idx → Elt F .f32) (k : ℕ) (m : Fin 16) : Vec F S1x1x16 .f32 := fun x => v (laneIdx k m x)

/-- The threshold of a trip: the network's fifth largest of the sixteen features, less the constant. -/
def thr (l : Fin 16 → Vec F S1x1x16 .f32) : FVec F S16 .f32 :=
  k0_pay56
    (k0_pay23 (k0_pay1 (l 0)) (k0_pay1 (l 1)) (k0_pay1 (l 2)) (k0_pay1 (l 3)))
    (k0_pay24 (k0_pay1 (l 0)) (k0_pay1 (l 1)) (k0_pay1 (l 2)) (k0_pay1 (l 3)))
    (k0_pay25 (k0_pay1 (l 0)) (k0_pay1 (l 1)) (k0_pay1 (l 2)) (k0_pay1 (l 3)))
    (k0_pay32 (k0_pay1 (l 4)) (k0_pay1 (l 5)) (k0_pay1 (l 6)) (k0_pay1 (l 7)))
    (k0_pay33 (k0_pay1 (l 4)) (k0_pay1 (l 5)) (k0_pay1 (l 6)) (k0_pay1 (l 7)))
    (k0_pay34 (k0_pay1 (l 4)) (k0_pay1 (l 5)) (k0_pay1 (l 6)) (k0_pay1 (l 7)))
    (k0_pay39 (k0_pay1 (l 8)) (k0_pay1 (l 9)) (k0_pay1 (l 10)) (k0_pay1 (l 11)))
    (k0_pay42 (k0_pay1 (l 8)) (k0_pay1 (l 9)) (k0_pay1 (l 10)) (k0_pay1 (l 11)))
    (k0_pay43 (k0_pay1 (l 8)) (k0_pay1 (l 9)) (k0_pay1 (l 10)) (k0_pay1 (l 11)))
    (k0_pay44 (k0_pay1 (l 8)) (k0_pay1 (l 9)) (k0_pay1 (l 10)) (k0_pay1 (l 11)))
    (k0_pay49 (l 12) (l 13) (l 14) (l 15)) (k0_pay52 (l 12) (l 13) (l 14) (l 15))
    (k0_pay53 (l 12) (l 13) (l 14) (l 15)) (k0_pay54 (l 12) (l 13) (l 14) (l 15))
    (k0_pay55 (k0_pay1 (l 0)) (k0_pay1 (l 1)) (k0_pay1 (l 2)) (k0_pay1 (l 3)) (k0_pay1 (l 4)) (k0_pay1 (l 5)) (k0_pay1 (l 6)) (k0_pay1 (l 7)))

/-- What a trip stores over feature `m`: the lanes above the threshold kept, the others zero. -/
def sel (l : Fin 16 → Vec F S1x1x16 .f32) (m : Fin 16) : FVec F S1x1x16 .f32 := k0_pay59 (k0_pay1 (l m)) (thr l)

/-- The contents after a trip `k` over the contents `v` has stored its first `n` features. -/
def after (v : S16x8x128.Idx → Elt F .f32) (k n : ℕ) : S16x8x128.Idx → Elt F .f32 := fun y =>
  if (y 1 : Fin 8).val = k / 8 ∧ (y 2 : Fin 128).val / 16 = k % 8 ∧ (y 0 : Fin 16).val < n then
    sel (lanes v k) (y 0) (ix3 0 0 ⟨(y 2 : Fin 128).val % 16, Nat.mod_lt _ (by decide)⟩)
  else v y

/-- With no feature stored, the contents are as they were. -/
theorem after_zero (v : S16x8x128.Idx → Elt F .f32) (k : ℕ) : after v k 0 = v := by
  funext y; simp [after]

/-- What the compute loop leaves at each element: the element above its group's threshold kept, any other zero. -/
def masked (v : S16x8x128.Idx → Elt F .f32) : S16x8x128.Idx → Elt F .f32 := fun y =>
  sel (lanes v ((y 1 : Fin 8).val * 8 + (y 2 : Fin 128).val / 16)) (y 0) (ix3 0 0 ⟨(y 2 : Fin 128).val % 16, Nat.mod_lt _ (by decide)⟩)

/-- The masking of one position: feature `m` of the sixteen `a`, zero unless above the threshold. -/
def keep (a : Fin 16 → F .f32) (m : Fin 16) : F .f32 := sel (fun m _ => a m) m (ix3 0 0 0)

/-- A loaded block, read as a vector of sixteen lanes, lane by lane. -/
theorem pay1_apply (x : Vec F S1x1x16 .f32) (j : S16.Idx) : k0_pay1 x j = x (ix3 0 0 (j 0)) := by
  refine shapeCast_apply x _ j _ ?_
  rw [Shape.rowMajor_val_three, Shape.rowMajor_val_one]
  show (0 * 1 + 0) * 16 + (j 0 : Fin 16).val = (j 0 : Fin 16).val
  omega

set_option maxRecDepth 65536 in
/-- The threshold at a lane is the threshold of that lane's sixteen values. -/
theorem thr_apply (l : Fin 16 → Vec F S1x1x16 .f32) (j : S16.Idx) :
    thr l j = thr (fun m _ => k0_pay1 (l m) j) (ix1 0) := rfl

/-- What a trip stores at a lane depends on that lane's sixteen values alone. -/
theorem sel_apply (l : Fin 16 → Vec F S1x1x16 .f32) (m : Fin 16) (j : Fin 16) :
    sel l m (ix3 0 0 j) = keep (fun m => l m (ix3 0 0 j)) m := by
  have e : ∀ (l : Fin 16 → Vec F S1x1x16 .f32) (j : Fin 16), sel l m (ix3 0 0 j)
      = select (cmpf (s := S16) (φ := .f32) .ogt (fun _ => k0_pay1 (l m) (ix1 j)) (fun _ => thr l (ix1 j))) (fun _ => k0_pay1 (l m) (ix1 j))
          (broadcast S16 (Scalar.ofBits (F := F) .f32 0x00000000#32)) (ix1 0) := by
    intro l j
    unfold sel k0_pay59
    refine (shapeCast_apply _ shapeCasts_S16_S1x1x16 _ (ix1 j) ?_).trans ?_
    swap
    · rfl
    rw [Shape.rowMajor_val_three, Shape.rowMajor_val_one]
    show j.val = (0 * 1 + 0) * 16 + j.val
    omega
  rw [keep, e, e, thr_apply l, thr_apply (fun m _ => l m (ix3 0 0 j))]
  simp only [pay1_apply]

/-- The contents when the trips below `n` are done. -/
def upTo (v : S16x8x128.Idx → Elt F .f32) (n : ℕ) : S16x8x128.Idx → Elt F .f32 := fun y =>
  if (y 1 : Fin 8).val * 8 + (y 2 : Fin 128).val / 16 < n then masked v y else v y

/-- With no trip done, the contents are as they were. -/
theorem upTo_zero (v : S16x8x128.Idx → Elt F .f32) : upTo v 0 = v := by
  funext y; simp [upTo]

/-- With all 64 trips done, every element is masked. -/
theorem upTo_last (v : S16x8x128.Idx → Elt F .f32) : upTo v 64 = masked v := by
  funext y
  have h1 : (y 1 : Fin 8).val < 8 := (y 1 : Fin 8).isLt
  have h2 : (y 2 : Fin 128).val < 128 := (y 2 : Fin 128).isLt
  exact if_pos (by omega)

/-- Trip `k` reads lanes that no earlier trip has stored. -/
theorem lanes_upTo (v : S16x8x128.Idx → Elt F .f32) {k : ℕ} (hk : k < 64) : lanes (upTo v k) k = lanes v k := by
  funext m x
  have h2 : (x 2 : Fin 16).val < 16 := (x 2 : Fin 16).isLt
  refine if_neg ?_
  show ¬ (k / 8 % 8 * 8 + (k % 8 * 16 + (x 2 : Fin 16).val) % 128 / 16 < k)
  omega

/-- A trip that has stored its sixteen features is one trip more done. -/
theorem after_upTo (v : S16x8x128.Idx → Elt F .f32) {k : ℕ} (hk : k < 64) : after (upTo v k) k 16 = upTo v (k + 1) := by
  funext y
  have h0 : (y 0 : Fin 16).val < 16 := (y 0 : Fin 16).isLt
  have h1 : (y 1 : Fin 8).val < 8 := (y 1 : Fin 8).isLt
  have h2 : (y 2 : Fin 128).val < 128 := (y 2 : Fin 128).isLt
  unfold after
  rw [lanes_upTo v hk]
  by_cases c : (y 1 : Fin 8).val * 8 + (y 2 : Fin 128).val / 16 = k
  · rw [if_pos (by omega)]
    unfold upTo masked
    rw [if_pos (by omega), c]
  · rw [if_neg (by omega)]
    unfold upTo
    by_cases c' : (y 1 : Fin 8).val * 8 + (y 2 : Fin 128).val / 16 < k
    · rw [if_pos c', if_pos (by omega)]
    · rw [if_neg c', if_neg (by omega)]

section Rules

variable (d : Dev nD) (i : grid0.Coords) {B : Memref sig .scVector .vmem S16x8x128 .f32} {v : S16x8x128.Idx → Elt F .f32}
variable {α : Type}

/-- The rectangle of sixteen lanes at trip `k`'s place of feature `m` is the lanes' index. -/
theorem emb_lane {off : Fin 3 → ℕ} {h : ∀ a, off a + S1x1x16.size a ≤ S16x8x128.size a} {k : ℕ} (hk : k < 64) {m : Fin 16}
    (ho : off = ![m.val, k / 8, k % 8 * 16]) (x : S1x1x16.Idx) :
    (Rect.unit (s := S16x8x128) off S1x1x16.size h).emb x = laneIdx k m x := by
  subst ho
  have h2 : (x 2 : Fin 16).val < 16 := (x 2 : Fin 16).isLt
  have h1 : (x 1 : Fin 1).val < 1 := (x 1 : Fin 1).isLt
  have h0 : (x 0 : Fin 1).val < 1 := (x 0 : Fin 1).isLt
  funext a
  apply Fin.ext
  fin_cases a
  · show m.val + 1 * (x 0 : Fin 1).val = m.val; omega
  · show k / 8 + 1 * (x 1 : Fin 1).val = k / 8 % 8; omega
  · show k % 8 * 16 + 1 * (x 2 : Fin 16).val = (k % 8 * 16 + (x 2 : Fin 16).val) % 128; omega

/-- A load of sixteen lanes from a buffer that reads `v`. -/
theorem wp_ld {off : Fin 3 → ℕ} {h : ∀ a, off a + S1x1x16.size a ≤ S16x8x128.size a}
    {hl : B.view.LoadsAt (Rect.unit (s := S16x8x128) off S1x1x16.size h).toLoadRect}
    {k : (S1x1x16.Idx → Elt F .f32) → Prog (TpuEff nD τ sig (Elt F) Λ₀ (.scVector ((i 0).castLE hcore0) ((i 1).castLE hsub0))) α} {Q : α → sProp 𝕄} :
    (own d i B v : sProp 𝕄) ⊢ iprop((own d i B v -∗ wp frame (wpE (defs₀ (F := F)) 𝒱₀ (tile d i) none) Set.univ
          (k (fun x => v ((Rect.unit (s := S16x8x128) off S1x1x16.size h).emb x))) Q)
        -∗ wp frame (wpE (defs₀ (F := F)) 𝒱₀ (tile d i) none) Set.univ (.op (.load B (Rect.unit (s := S16x8x128) off S1x1x16.size h).toLoadRect hl) k) Q) := by
  unfold own
  iintro ⟨%f, %hf, HB⟩ HK
  iapply (wp_load (defs := defs₀ (F := F)) 𝒱₀ (tile d i) none Set.univ (m := B) (S := Finset.univ) (f := f) (Finset.subset_univ _)) $$ HB
  iintro HB
  subst hf
  iapply HK
  iexists f
  isplitr; · ipureintro; rfl
  iexact HB

/-- The load of trip `k`'s lanes of feature `m`. -/
theorem wp_ldLanes {off : Fin 3 → ℕ} {h : ∀ a, off a + S1x1x16.size a ≤ S16x8x128.size a} (t : ℕ) (ht : t < 64) (m : Fin 16)
    (ho : off = ![m.val, t / 8, t % 8 * 16])
    {hl : B.view.LoadsAt (Rect.unit (s := S16x8x128) off S1x1x16.size h).toLoadRect}
    {k : (S1x1x16.Idx → Elt F .f32) → Prog (TpuEff nD τ sig (Elt F) Λ₀ (.scVector ((i 0).castLE hcore0) ((i 1).castLE hsub0))) α} {Q : α → sProp 𝕄} :
    (own d i B v : sProp 𝕄) ⊢ iprop((own d i B v -∗ wp frame (wpE (defs₀ (F := F)) 𝒱₀ (tile d i) none) Set.univ (k (lanes v t m)) Q)
        -∗ wp frame (wpE (defs₀ (F := F)) 𝒱₀ (tile d i) none) Set.univ (.op (.load B (Rect.unit (s := S16x8x128) off S1x1x16.size h).toLoadRect hl) k) Q) := by
  have e : lanes v t m = fun x => v ((Rect.unit (s := S16x8x128) off S1x1x16.size h).emb x) := by
    funext x; rw [emb_lane ht ho]; rfl
  rw [e]
  exact wp_ld d i

/-- The store of feature `m` in trip `t`, the features below `m` being stored. -/
theorem wp_stLanes {off : Fin 3 → ℕ} {h : ∀ a, off a + S1x1x16.size a ≤ S16x8x128.size a} (t : ℕ) (ht : t < 64) (m : Fin 16)
    (ho : off = ![m.val, t / 8, t % 8 * 16]) {w : S1x1x16.Idx → Elt F .f32} (hw : w = sel (lanes v t) m) (n n' : ℕ) (hn : m.val = n) (hn' : m.val + 1 = n')
    {hx : (B.access (Rect.unit (s := S16x8x128) off S1x1x16.size h)).Stores Finset.univ} {hm}
    {k : PUnit → Prog (TpuEff nD τ sig (Elt F) Λ₀ (.scVector ((i 0).castLE hcore0) ((i 1).castLE hsub0))) α} {Q : α → sProp 𝕄} :
    (own d i B (after v t n) : sProp 𝕄) ⊢ iprop((own d i B (after v t n') -∗ wp frame (wpE (defs₀ (F := F)) 𝒱₀ (tile d i) none) Set.univ (k ⟨⟩) Q)
        -∗ wp frame (wpE (defs₀ (F := F)) 𝒱₀ (tile d i) none) Set.univ (.op (.store B (Rect.unit (s := S16x8x128) off S1x1x16.size h) w Finset.univ hx hm) k) Q) := by
  subst hn hn'
  unfold own
  iintro ⟨%f, %hf, HB⟩ HK
  iapply (wp_store (defs := defs₀ (F := F)) 𝒱₀ (tile d i) none Set.univ (m := B) (r := Rect.unit (s := S16x8x128) off S1x1x16.size h)
    (w := w) (Mk := Finset.univ) (S := Finset.univ) (f := f) (Finset.subset_univ _)) $$ HB
  iintro HB
  iapply HK
  iexists ((B.access (Rect.unit (s := S16x8x128) off S1x1x16.size h)).write (Elt F) f w Finset.univ)
  isplitr [HB]
  swap
  · iexact HB
  · ipureintro
    funext y
    by_cases hy : ∃ x, (Rect.unit (s := S16x8x128) off S1x1x16.size h).emb x = y
    · obtain ⟨x, rfl⟩ := hy
      refine (View.read_write_of_mem (v := B.access (Rect.unit (s := S16x8x128) off S1x1x16.size h)) f w (Finset.mem_univ x)).trans ?_
      rw [emb_lane ht ho, hw]
      have h2 : (x 2 : Fin 16).val < 16 := (x 2 : Fin 16).isLt
      have c : (laneIdx t m x 1 : Fin 8).val = t / 8 ∧ (laneIdx t m x 2 : Fin 128).val / 16 = t % 8 ∧ (laneIdx t m x 0 : Fin 16).val < m.val + 1 := by
        refine ⟨?_, ?_, Nat.lt_succ_self _⟩
        · show t / 8 % 8 = t / 8; omega
        · show (t % 8 * 16 + (x 2 : Fin 16).val) % 128 / 16 = t % 8; omega
      unfold after
      rw [if_pos c]
      have hx' : x = ix3 0 0 ⟨(laneIdx t m x 2 : Fin 128).val % 16, Nat.mod_lt _ (by decide)⟩ := by
        funext a
        apply Fin.ext
        fin_cases a
        · exact Nat.lt_one_iff.mp (x 0 : Fin 1).isLt
        · exact Nat.lt_one_iff.mp (x 1 : Fin 1).isLt
        · show (x 2 : Fin 16).val = (t % 8 * 16 + (x 2 : Fin 16).val) % 128 % 16; omega
      exact congrArg (sel (lanes v t) m) hx'
    · have hn : B.view.emb y ∉ (B.access (Rect.unit (s := S16x8x128) off S1x1x16.size h)).setOn Finset.univ := by
        intro hc
        obtain ⟨x, -, hx⟩ := Finset.mem_map.mp hc
        exact hy ⟨x, B.view.emb.injective hx⟩
      have e : B.view.read (Elt F) ((B.access (Rect.unit (s := S16x8x128) off S1x1x16.size h)).write (Elt F) f w Finset.univ) y = B.view.read (Elt F) f y := by
        rw [View.read_apply, View.read_apply]
        exact congrArg _ (View.write_of_not_mem (v := B.access (Rect.unit (s := S16x8x128) off S1x1x16.size h)) f w Finset.univ hn)
      rw [e, hf]
      unfold after
      by_cases c : (y 1 : Fin 8).val = t / 8 ∧ (y 2 : Fin 128).val / 16 = t % 8 ∧ (y 0 : Fin 16).val < m.val
      · rw [if_pos c, if_pos ⟨c.1, c.2.1, by omega⟩]
      · rw [if_neg c, if_neg]
        rintro ⟨c1, c2, c3⟩
        apply hy
        refine ⟨ix3 0 0 ⟨(y 2 : Fin 128).val % 16, Nat.mod_lt _ (by decide)⟩, ?_⟩
        rw [emb_lane ht ho]
        have h0 : (y 0 : Fin 16).val = m.val := by
          by_contra hne; exact c ⟨c1, c2, by omega⟩
        have h2 : (y 2 : Fin 128).val < 128 := (y 2 : Fin 128).isLt
        funext a
        apply Fin.ext
        fin_cases a
        · exact h0.symm
        · show t / 8 % 8 = (y 1 : Fin 8).val; omega
        · show (t % 8 * 16 + (y 2 : Fin 128).val % 16) % 128 = (y 2 : Fin 128).val; omega

end Rules

end Cert.Proof.KernelIdeal

end
-- ==== Proof.IdealTrip.lean ====
/-
  The compute loop over one staging buffer of shape 16 × 8 × 128: its trip (sixteen loads, then sixteen stores) and its
  64 trips.
-/
module

public import proofs.«01_k».proof.Proof.IdealSlot
public import proofs.«01_k».proof.Proof.Gen.KernelIdeal
public import proofs.«01_k».proof.Proof.Gen.KernelIdeal.Skeleton
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ValueIdx

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-- The sixteen places a trip loads from and stores to, in closed form. -/
theorem offs : ∀ k : Fin k0_t2_loop.trips, k0_off5 k = ![0, k.val / 8, k.val % 8 * 16] ∧ k0_off6 k = ![1, k.val / 8, k.val % 8 * 16] ∧ k0_off7 k = ![2, k.val / 8, k.val % 8 * 16] ∧ k0_off8 k = ![3, k.val / 8, k.val % 8 * 16] ∧ k0_off9 k = ![4, k.val / 8, k.val % 8 * 16] ∧ k0_off10 k = ![5, k.val / 8, k.val % 8 * 16] ∧ k0_off11 k = ![6, k.val / 8, k.val % 8 * 16] ∧ k0_off12 k = ![7, k.val / 8, k.val % 8 * 16] ∧ k0_off13 k = ![8, k.val / 8, k.val % 8 * 16] ∧ k0_off14 k = ![9, k.val / 8, k.val % 8 * 16] ∧ k0_off15 k = ![10, k.val / 8, k.val % 8 * 16] ∧ k0_off16 k = ![11, k.val / 8, k.val % 8 * 16] ∧ k0_off17 k = ![12, k.val / 8, k.val % 8 * 16] ∧ k0_off18 k = ![13, k.val / 8, k.val % 8 * 16] ∧ k0_off19 k = ![14, k.val / 8, k.val % 8 * 16] ∧ k0_off20 k = ![15, k.val / 8, k.val % 8 * 16] := by
  decide +kernel

local notation "𝕄" => MT nD τ sig (HIx 1) (Elt F) ℕ UU ℕ

variable [FloatOps F]

variable (d : Dev nD) (i : grid0.Coords)
    (arg2 : Memref sig .scVector .hbm S2x16x512x2048 .f32) (harg2 : arg2.IsWhole) (arg3 : Memref sig .scVector .hbm S2x16x512x2048 .f32) (harg3 : arg3.IsWhole)
    (arg4 : Memref sig .scVector .vmem S16x8x128 .f32) (harg4 : arg4.IsWhole) (arg5 : Memref sig .scVector .vmem S16x8x128 .f32) (harg5 : arg5.IsWhole)
    (arg6 : Memref sig .scVector .vmem S16x8x128 .f32) (harg6 : arg6.IsWhole) (arg7 : Memref sig .scVector .vmem S16x8x128 .f32) (harg7 : arg7.IsWhole)
    (arg8 arg9 arg10 arg11 arg12 arg13 arg14 arg15 : DmaSems sig S_)

/-- One trip of the compute loop over the first slot's buffer. -/
theorem t2_trip (v29 : BitVec 32) (t1 : Fin k0_t1_loop.trips) (v57 : BitVec 32) (t : Fin k0_t2_loop.trips) (v : S16x8x128.Idx → Elt F .f32)
    {Q : Unit → sProp 𝕄} :
    (own d i arg4 v : sProp 𝕄) ⊢ iprop((own d i arg4 (after v t.val 16) -∗ Q ())
      -∗ wp frame (wpE (defs₀ (F := F)) 𝒱₀ (tile d i) none) Set.univ
        (k0_t2_body (F := F) i arg2 harg2 arg3 harg3 arg4 harg4 arg5 harg5 arg6 harg6 arg7 harg7 arg8 arg9 arg10 arg11 arg12 arg13 arg14 arg15 v29 t1 v57 t ()) Q) := by
  iintro HB HK
  unfold k0_t2_body
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [Prog.lift, Prog.bind_op, Prog.bind_ret]
  iapply (wp_ldLanes d i t.val t.isLt 0 ((offs t).1)) $$ HB; iintro HB
  iapply (wp_ldLanes d i t.val t.isLt 1 ((offs t).2.1)) $$ HB; iintro HB
  iapply (wp_ldLanes d i t.val t.isLt 2 ((offs t).2.2.1)) $$ HB; iintro HB
  iapply (wp_ldLanes d i t.val t.isLt 3 ((offs t).2.2.2.1)) $$ HB; iintro HB
  iapply (wp_ldLanes d i t.val t.isLt 4 ((offs t).2.2.2.2.1)) $$ HB; iintro HB
  iapply (wp_ldLanes d i t.val t.isLt 5 ((offs t).2.2.2.2.2.1)) $$ HB; iintro HB
  iapply (wp_ldLanes d i t.val t.isLt 6 ((offs t).2.2.2.2.2.2.1)) $$ HB; iintro HB
  iapply (wp_ldLanes d i t.val t.isLt 7 ((offs t).2.2.2.2.2.2.2.1)) $$ HB; iintro HB
  iapply (wp_ldLanes d i t.val t.isLt 8 ((offs t).2.2.2.2.2.2.2.2.1)) $$ HB; iintro HB
  iapply (wp_ldLanes d i t.val t.isLt 9 ((offs t).2.2.2.2.2.2.2.2.2.1)) $$ HB; iintro HB
  iapply (wp_ldLanes d i t.val t.isLt 10 ((offs t).2.2.2.2.2.2.2.2.2.2.1)) $$ HB; iintro HB
  iapply (wp_ldLanes d i t.val t.isLt 11 ((offs t).2.2.2.2.2.2.2.2.2.2.2.1)) $$ HB; iintro HB
  iapply (wp_ldLanes d i t.val t.isLt 12 ((offs t).2.2.2.2.2.2.2.2.2.2.2.2.1)) $$ HB; iintro HB
  iapply (wp_ldLanes d i t.val t.isLt 13 ((offs t).2.2.2.2.2.2.2.2.2.2.2.2.2.1)) $$ HB; iintro HB
  iapply (wp_ldLanes d i t.val t.isLt 14 ((offs t).2.2.2.2.2.2.2.2.2.2.2.2.2.2.1)) $$ HB; iintro HB
  iapply (wp_ldLanes d i t.val t.isLt 15 ((offs t).2.2.2.2.2.2.2.2.2.2.2.2.2.2.2)) $$ HB; iintro HB
  ihave HB := (show own d i arg4 v ⊢ own d i arg4 (after v t.val 0) from by rw [after_zero]) $$ HB
  iapply (wp_ld d i) $$ HB; iintro HB
  iapply (wp_stLanes d i (v := v) t.val t.isLt 0 (offs t).1 (w := _) rfl 0 1 rfl rfl) $$ HB; iintro HB
  iapply (wp_ld d i) $$ HB; iintro HB
  iapply (wp_stLanes d i (v := v) t.val t.isLt 1 (offs t).2.1 (w := _) rfl 1 2 rfl rfl) $$ HB; iintro HB
  iapply (wp_ld d i) $$ HB; iintro HB
  iapply (wp_stLanes d i (v := v) t.val t.isLt 2 (offs t).2.2.1 (w := _) rfl 2 3 rfl rfl) $$ HB; iintro HB
  iapply (wp_ld d i) $$ HB; iintro HB
  iapply (wp_stLanes d i (v := v) t.val t.isLt 3 (offs t).2.2.2.1 (w := _) rfl 3 4 rfl rfl) $$ HB; iintro HB
  iapply (wp_ld d i) $$ HB; iintro HB
  iapply (wp_stLanes d i (v := v) t.val t.isLt 4 (offs t).2.2.2.2.1 (w := _) rfl 4 5 rfl rfl) $$ HB; iintro HB
  iapply (wp_ld d i) $$ HB; iintro HB
  iapply (wp_stLanes d i (v := v) t.val t.isLt 5 (offs t).2.2.2.2.2.1 (w := _) rfl 5 6 rfl rfl) $$ HB; iintro HB
  iapply (wp_ld d i) $$ HB; iintro HB
  iapply (wp_stLanes d i (v := v) t.val t.isLt 6 (offs t).2.2.2.2.2.2.1 (w := _) rfl 6 7 rfl rfl) $$ HB; iintro HB
  iapply (wp_ld d i) $$ HB; iintro HB
  iapply (wp_stLanes d i (v := v) t.val t.isLt 7 (offs t).2.2.2.2.2.2.2.1 (w := _) rfl 7 8 rfl rfl) $$ HB; iintro HB
  iapply (wp_ld d i) $$ HB; iintro HB
  iapply (wp_stLanes d i (v := v) t.val t.isLt 8 (offs t).2.2.2.2.2.2.2.2.1 (w := _) rfl 8 9 rfl rfl) $$ HB; iintro HB
  iapply (wp_ld d i) $$ HB; iintro HB
  iapply (wp_stLanes d i (v := v) t.val t.isLt 9 (offs t).2.2.2.2.2.2.2.2.2.1 (w := _) rfl 9 10 rfl rfl) $$ HB; iintro HB
  iapply (wp_ld d i) $$ HB; iintro HB
  iapply (wp_stLanes d i (v := v) t.val t.isLt 10 (offs t).2.2.2.2.2.2.2.2.2.2.1 (w := _) rfl 10 11 rfl rfl) $$ HB; iintro HB
  iapply (wp_ld d i) $$ HB; iintro HB
  iapply (wp_stLanes d i (v := v) t.val t.isLt 11 (offs t).2.2.2.2.2.2.2.2.2.2.2.1 (w := _) rfl 11 12 rfl rfl) $$ HB; iintro HB
  iapply (wp_ld d i) $$ HB; iintro HB
  iapply (wp_stLanes d i (v := v) t.val t.isLt 12 (offs t).2.2.2.2.2.2.2.2.2.2.2.2.1 (w := _) rfl 12 13 rfl rfl) $$ HB; iintro HB
  iapply (wp_ld d i) $$ HB; iintro HB
  iapply (wp_stLanes d i (v := v) t.val t.isLt 13 (offs t).2.2.2.2.2.2.2.2.2.2.2.2.2.1 (w := _) rfl 13 14 rfl rfl) $$ HB; iintro HB
  iapply (wp_ld d i) $$ HB; iintro HB
  iapply (wp_stLanes d i (v := v) t.val t.isLt 14 (offs t).2.2.2.2.2.2.2.2.2.2.2.2.2.2.1 (w := _) rfl 14 15 rfl rfl) $$ HB; iintro HB
  iapply (wp_ld d i) $$ HB; iintro HB
  iapply (wp_stLanes d i (v := v) t.val t.isLt 15 (offs t).2.2.2.2.2.2.2.2.2.2.2.2.2.2.2 (w := _) rfl 15 16 rfl rfl) $$ HB; iintro HB
  iapply (le_wp_ret _ _)
  iapply HK
  iexact HB

/-- The compute loop over the first slot's buffer: from any contents, it leaves each element masked. -/
theorem t2_loop (v29 : BitVec 32) (t1 : Fin k0_t1_loop.trips) (v57 : BitVec 32) (v : S16x8x128.Idx → Elt F .f32)
    {β : Type} {kk : Unit → Prog (TpuEff nD τ sig (Elt F) Λ₀ (.scVector ((i 0).castLE hcore0) ((i 1).castLE hsub0))) β} {Q : β → sProp 𝕄} :
    (own d i arg4 v : sProp 𝕄) ⊢ iprop((own d i arg4 (masked v) -∗ wp frame (wpE (defs₀ (F := F)) 𝒱₀ (tile d i) none) Set.univ (kk ()) Q)
      -∗ wp frame (wpE (defs₀ (F := F)) 𝒱₀ (tile d i) none) Set.univ
        ((Scf.Loop.for k0_t2_loop k0_t2_ok () (k0_t2_body (F := F) i arg2 harg2 arg3 harg3 arg4 harg4 arg5 harg5 arg6 harg6 arg7 harg7 arg8 arg9 arg10 arg11 arg12 arg13 arg14 arg15 v29 t1 v57)).bind kk) Q) := by
  iintro HB HK
  iapply (Scf.wp_for_bind frame (wpE (defs₀ (F := F)) 𝒱₀ (tile d i) none) Set.univ _ _ _ k0_t2_ok ()
    (k0_t2_body (F := F) i arg2 harg2 arg3 harg3 arg4 harg4 arg5 harg5 arg6 harg6 arg7 harg7 arg8 arg9 arg10 arg11 arg12 arg13 arg14 arg15 v29 t1 v57)
    (fun n _ => own d i arg4 (upTo v n)) (by
      intro t acc
      iintro HB
      iapply (t2_trip d i arg2 harg2 arg3 harg3 arg4 harg4 arg5 harg5 arg6 harg6 arg7 harg7 arg8 arg9 arg10 arg11 arg12 arg13 arg14 arg15 v29 t1 v57 t (upTo v t.val)) $$ HB
      iintro HB
      rw [after_upTo v t.isLt]
      iexact HB)) $$ [HB]
  · rw [upTo_zero]; iexact HB
  · iintro %acc HB
    iapply HK
    rw [show Scf.trips k0_t2_loop.lb k0_t2_loop.ub k0_t2_loop.st = 64 from rfl, upTo_last]
    iexact HB

omit d in
set_option maxRecDepth 65536 in
/-- The second slot's loop is the first slot's, over the second slot's buffer. -/
theorem t3_eq (v29 : BitVec 32) (t1 : Fin k0_t1_loop.trips) (v132 v163 c : BitVec 32) :
    Scf.Loop.for k0_t3_loop k0_t3_ok () (k0_t3_body (F := F) i arg2 harg2 arg3 harg3 arg4 harg4 arg5 harg5 arg6 harg6 arg7 harg7 arg8 arg9 arg10 arg11 arg12 arg13 arg14 arg15 v29 t1 v132 v163 c)
      = Scf.Loop.for k0_t2_loop k0_t2_ok () (k0_t2_body (F := F) i arg2 harg2 arg3 harg3 arg5 harg5 arg5 harg5 arg6 harg6 arg7 harg7 arg8 arg9 arg10 arg11 arg12 arg13 arg14 arg15 v29 t1 0) := rfl

omit d in
set_option maxRecDepth 65536 in
/-- The third slot's loop is the first slot's, over the third slot's buffer. -/
theorem t4_eq (v29 : BitVec 32) (t1 : Fin k0_t1_loop.trips) (v207 v228 v238 c : BitVec 32) :
    Scf.Loop.for k0_t4_loop k0_t4_ok () (k0_t4_body (F := F) i arg2 harg2 arg3 harg3 arg4 harg4 arg5 harg5 arg6 harg6 arg7 harg7 arg8 arg9 arg10 arg11 arg12 arg13 arg14 arg15 v29 t1 v207 v228 v238 c)
      = Scf.Loop.for k0_t2_loop k0_t2_ok () (k0_t2_body (F := F) i arg2 harg2 arg3 harg3 arg6 harg6 arg5 harg5 arg6 harg6 arg7 harg7 arg8 arg9 arg10 arg11 arg12 arg13 arg14 arg15 v29 t1 0) := rfl

omit d in
set_option maxRecDepth 65536 in
/-- The fourth slot's loop is the first slot's, over the fourth slot's buffer. -/
theorem t5_eq (v29 : BitVec 32) (t1 : Fin k0_t1_loop.trips) (v282 v303 v305 v306 : BitVec 32) (v311 : BitVec 1) :
    Scf.Loop.for k0_t5_loop k0_t5_ok () (k0_t5_body (F := F) i arg2 harg2 arg3 harg3 arg4 harg4 arg5 harg5 arg6 harg6 arg7 harg7 arg8 arg9 arg10 arg11 arg12 arg13 arg14 arg15 v29 t1 v282 v303 v305 v306 v311)
      = Scf.Loop.for k0_t2_loop k0_t2_ok () (k0_t2_body (F := F) i arg2 harg2 arg3 harg3 arg7 harg7 arg5 harg5 arg6 harg6 arg7 harg7 arg8 arg9 arg10 arg11 arg12 arg13 arg14 arg15 v29 t1 0) := rfl

end Cert.Proof.KernelIdeal

end
-- ==== Proof.IdealCopies.lean ====
/-
  The four copies a tile's chunk makes: a block of `x` fetched into a staging buffer, its arrival, the masked block sent
  to `o`, and the wait that frees the buffer.
-/
module

public import proofs.«01_k».proof.Proof.IdealTrip
public import proofs.«01_k».proof.Proof.Gen.KernelIdeal
public import proofs.«01_k».proof.Proof.Gen.KernelIdeal.Skeleton
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ValueIdx

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## The blocks -/

/-- `x` and `o`, whole, as a tile reads them. -/
abbrev xA : Memref sig .scVector .hbm S2x16x512x2048 .f32 := Memref.whole main_arg0_scv
abbrev oA : Memref sig .scVector .hbm S2x16x512x2048 .f32 := Memref.whole main_v0_scv

/-- The tile's number: the 32 tiles share the 2 × 512 rows, 32 rows each. -/
def wid (i : grid0.Coords) : ℕ := 2 * (i 1 : Fin 16).val + (i 0 : Fin 2).val

/-- A tile's number is below 32. -/
theorem wid_lt (i : grid0.Coords) : wid i < 32 := by
  have h0 : (i 0 : Fin 2).val < 2 := (i 0 : Fin 2).isLt
  have h1 : (i 1 : Fin 16).val < 16 := (i 1 : Fin 16).isLt
  unfold wid; omega

/-- Where chunk `t` of tile `i` starts. -/
def blkOff (i : grid0.Coords) (t : ℕ) : Fin 4 → ℕ := ![wid i / 16, 0, wid i % 16 * 32 + t / 16 * 8, t % 16 * 128]

/-- The block of `M` at `off`. -/
abbrev blk (M : Memref sig .scVector .hbm S2x16x512x2048 .f32) (off : Fin 4 → ℕ) (h : ∀ a, off a + S1x16x8x128.size a ≤ S2x16x512x2048.size a) :
    Memref sig .scVector .hbm S16x8x128 .f32 :=
  (M.slice (Rect.unit (s := S2x16x512x2048) off S1x16x8x128.size h) (fun _ => rfl)).squeeze S16x8x128 squeezes_S1x16x8x128_S16x8x128

/-- The element of the whole array that chunk `t` of tile `i` has at `y`. -/
def at4 (i : grid0.Coords) (t : ℕ) (y : S16x8x128.Idx) : S2x16x512x2048.Idx :=
  ix4 ⟨wid i / 16 % 2, Nat.mod_lt _ (by decide)⟩ (y 0)
    ⟨(wid i % 16 * 32 + t / 16 * 8 + (y 1 : Fin 8).val) % 512, Nat.mod_lt _ (by decide)⟩
    ⟨(t % 16 * 128 + (y 2 : Fin 128).val) % 2048, Nat.mod_lt _ (by decide)⟩

/-- The elements of chunk `t` of tile `i`. -/
def cell (i : grid0.Coords) (t : ℕ) : Finset S2x16x512x2048.Idx :=
  Finset.univ.filter fun z => (z 0 : Fin 2).val * 16 + (z 2 : Fin 512).val / 32 = wid i
    ∧ (z 2 : Fin 512).val % 32 / 8 * 16 + (z 3 : Fin 2048).val / 128 = t

/-- Element `y` of the block that chunk `t`'s copy names is the array's element `at4 i t y`. -/
theorem rect_emb {i : grid0.Coords} {t : ℕ} (ht : t < 64) {off : Fin 4 → ℕ} {h : ∀ a, off a + S1x16x8x128.size a ≤ S2x16x512x2048.size a}
    (ho : off = blkOff i t) (hn : S16x8x128.numel = (Rect.unit (s := S2x16x512x2048) off S1x16x8x128.size h).shape.numel) (y : S16x8x128.Idx) :
    (Rect.unit (s := S2x16x512x2048) off S1x16x8x128.size h).emb (Shape.reshapeEquiv hn y) = at4 i t y := by
  subst ho
  have hw := wid_lt i
  have h1 : (y 1 : Fin 8).val < 8 := (y 1 : Fin 8).isLt
  have h2 : (y 2 : Fin 128).val < 128 := (y 2 : Fin 128).isLt
  have e : Shape.reshapeEquiv hn y = Fin.cons ⟨0, Nat.one_pos⟩ y := Shape.reshapeEquiv_cons_one (d := S16x8x128.size) _ y
  rw [e]
  funext a
  apply Fin.ext
  fin_cases a
  · show wid i / 16 + 1 * 0 = wid i / 16 % 2; omega
  · show 0 + 1 * (y 0 : Fin 16).val = (y 0 : Fin 16).val; omega
  · show wid i % 16 * 32 + t / 16 * 8 + 1 * (y 1 : Fin 8).val = (wid i % 16 * 32 + t / 16 * 8 + (y 1 : Fin 8).val) % 512; omega
  · show t % 16 * 128 + 1 * (y 2 : Fin 128).val = (t % 16 * 128 + (y 2 : Fin 128).val) % 2048; omega

/-- Every element of chunk `t`'s block lies in the chunk's cell. -/
theorem at4_mem (i : grid0.Coords) {t : ℕ} (ht : t < 64) (y : S16x8x128.Idx) : at4 i t y ∈ cell i t := by
  have hw := wid_lt i
  have h1 : (y 1 : Fin 8).val < 8 := (y 1 : Fin 8).isLt
  have h2 : (y 2 : Fin 128).val < 128 := (y 2 : Fin 128).isLt
  refine Finset.mem_filter.mpr ⟨Finset.mem_univ _, ?_⟩
  show wid i / 16 % 2 * 16 + (wid i % 16 * 32 + t / 16 * 8 + (y 1 : Fin 8).val) % 512 / 32 = wid i
    ∧ (wid i % 16 * 32 + t / 16 * 8 + (y 1 : Fin 8).val) % 512 % 32 / 8 * 16 + (t % 16 * 128 + (y 2 : Fin 128).val) % 2048 / 128 = t
  omega

/-- Every element of the chunk's cell is one of its block's. -/
theorem mem_cell {i : grid0.Coords} {t : ℕ} {z : S2x16x512x2048.Idx} (h : z ∈ cell i t) : ∃ y, at4 i t y = z := by
  obtain ⟨-, ha, hb⟩ := Finset.mem_filter.mp h
  have h0 : (z 0 : Fin 2).val < 2 := (z 0 : Fin 2).isLt
  have h2 : (z 2 : Fin 512).val < 512 := (z 2 : Fin 512).isLt
  have h3 : (z 3 : Fin 2048).val < 2048 := (z 3 : Fin 2048).isLt
  refine ⟨ix3 (z 1) ⟨(z 2 : Fin 512).val % 8, Nat.mod_lt _ (by decide)⟩ ⟨(z 3 : Fin 2048).val % 128, Nat.mod_lt _ (by decide)⟩, ?_⟩
  funext a
  apply Fin.ext
  fin_cases a
  · show wid i / 16 % 2 = (z 0 : Fin 2).val; omega
  · rfl
  · show (wid i % 16 * 32 + t / 16 * 8 + (z 2 : Fin 512).val % 8) % 512 = (z 2 : Fin 512).val; omega
  · show (t % 16 * 128 + (z 3 : Fin 2048).val % 128) % 2048 = (z 3 : Fin 2048).val; omega

/-- The block of `x` at chunk `t`'s place is the chunk's elements, … -/
theorem x_set {i : grid0.Coords} {t : ℕ} (ht : t < 64) {off : Fin 4 → ℕ} {h : ∀ a, off a + S1x16x8x128.size a ≤ S2x16x512x2048.size a} (ho : off = blkOff i t) :
    (blk xA off h).view.set = cell i t := by
  ext z
  constructor
  · intro hz
    obtain ⟨y, -, rfl⟩ := Finset.mem_map.mp hz
    exact (rect_emb ht ho _ y).symm ▸ at4_mem i ht y
  · intro hz
    obtain ⟨y, rfl⟩ := mem_cell hz
    exact Finset.mem_map.mpr ⟨y, Finset.mem_univ _, rect_emb ht ho _ y⟩

/-- … as is the block of `o`. -/
theorem o_set {i : grid0.Coords} {t : ℕ} (ht : t < 64) {off : Fin 4 → ℕ} {h : ∀ a, off a + S1x16x8x128.size a ≤ S2x16x512x2048.size a} (ho : off = blkOff i t) :
    (blk oA off h).view.set = cell i t := x_set (h := h) ht ho

variable [FloatOps F]

/-- The array with every position masked. -/
def out (X : S2x16x512x2048.Idx → Elt F .f32) : S2x16x512x2048.Idx → Elt F .f32 := fun z =>
  keep (fun m => X (ix4 (z 0) m (z 2) (z 3))) (z 1)

/-- A chunk's masked contents are the masked array's. -/
theorem masked_at (X : S2x16x512x2048.Idx → Elt F .f32) (i : grid0.Coords) (t : ℕ) (y : S16x8x128.Idx) :
    masked (fun y => X (at4 i t y)) y = out X (at4 i t y) := by
  have h1 : (y 1 : Fin 8).val < 8 := (y 1 : Fin 8).isLt
  have h2 : (y 2 : Fin 128).val < 128 := (y 2 : Fin 128).isLt
  have e : ∀ m, laneIdx ((y 1 : Fin 8).val * 8 + (y 2 : Fin 128).val / 16) m (ix3 0 0 ⟨(y 2 : Fin 128).val % 16, Nat.mod_lt _ (by decide)⟩)
      = ix3 m (y 1) (y 2) := by
    intro m
    funext a
    apply Fin.ext
    fin_cases a
    · rfl
    · show ((y 1 : Fin 8).val * 8 + (y 2 : Fin 128).val / 16) / 8 % 8 = (y 1 : Fin 8).val; omega
    · show (((y 1 : Fin 8).val * 8 + (y 2 : Fin 128).val / 16) % 8 * 16 + (y 2 : Fin 128).val % 16) % 128 = (y 2 : Fin 128).val; omega
  refine (sel_apply _ _ _).trans ?_
  refine congrFun (congrArg keep (funext fun m => ?_)) (y 0)
  exact congrArg (fun y => X (at4 i t y)) (e m)

/-! ## The copies -/

variable (d : Dev nD) (i : grid0.Coords) (X : S2x16x512x2048.Idx → Elt F .f32)

/-- Chunk `t` of `x`, holding `X`. -/
def xpt (t : ℕ) : sProp 𝕄 := xA.view.loc (tile d i) ↦[cell i t]{fullShare} X

/-- Chunk `t` of `o`, holding `X`. -/
def opt (t : ℕ) : sProp 𝕄 := oA.view.loc (tile d i) ↦[cell i t]{fullShare} X

/-- The credit of a copy to `o`. -/
abbrev NO : ℕ := sig.dmaCredit .scVector (Kind.scVector.table .hbm) oA.view.buf S16x8x128 .f32

variable (B : Memref sig .scVector .vmem S16x8x128 .f32) (sm : DmaSem sig)

/-- Chunk `t` of `x` on its way into `B`. -/
def loading (t : ℕ) : sProp 𝕄 :=
  Transfers.Flight EC (tile d i) (.dma sm) (none : HIx 1) B.view.dmaCredit iprop(own d i B (fun y => X (at4 i t y)) ∗ xpt d i X t)

/-- Chunk `t`, masked, on its way from `B` to `o`. -/
def sending (t : ℕ) : sProp 𝕄 :=
  Transfers.Flight EC (tile d i) (.dma sm) (none : HIx 1) NO iprop(opt d i (out X) t ∗ ∃ v, own d i B v)

/-- What the tile owes, its recorded waits grown by its own copies' only; under it the tile may wait for its copies. -/
def owing (Ob : CellTallies nD τ sig (HIx 1)) (W : Waits sig (HIx 1)) : sProp 𝕄 :=
  iprop(Transfers.MayWaits (tile d i) none Ob ∗ ∃ W', ⌜∀ p ∈ W', p ∈ W ∨ p.2 = none⌝ ∗ owes (tile d i) Ob W')

variable {B} {α : Type} {v : S16x8x128.Idx → Elt F .f32}
  {k : PUnit → Prog (TpuEff nD τ sig (Elt F) Λ₀ (.scVector ((i 0).castLE hcore0) ((i 1).castLE hsub0))) α}
  {off : Fin 4 → ℕ} {h : ∀ a, off a + S1x16x8x128.size a ≤ S2x16x512x2048.size a}

/-- Chunk `t`'s fetch starts. -/
theorem wp_fetch (hN : 0 < B.view.dmaCredit) {t : ℕ} (ht : t < 64) (ho : off = blkOff i t) {hsrc hdst hsem} {Q : α → sProp 𝕄} :
    iprop(own d i B v ∗ xpt d i X t ∗ semVal (tile d i, .dma sm) 0)
      ⊢ iprop((loading d i X B sm t -∗ wp frame (wpE (defs₀ (F := F)) 𝒱₀ (tile d i) none) Set.univ (k ⟨⟩) Q)
        -∗ wp frame (wpE (defs₀ (F := F)) 𝒱₀ (tile d i) none) Set.univ (.op (.enqueueDma (blk xA off h) (.here B) (.dma sm) hsrc hdst hsem) k) Q) := by
  unfold own xpt
  iintro ⟨⟨%f, %hf, HB⟩, Hx, Hs⟩ HK
  iapply (Transfers.wp_dmaLocal EC 𝒱₀ (tile d i) none (src := blk xA off h) (dst := B) (fs := X) (fd := f) (q := fullShare) (Sd := Finset.univ)
    none B.view.dmaCredit rfl hN (Finset.subset_univ _)) $$ [HB Hx Hs]
  · rw [x_set ht ho]
    isplitl [Hx]; · iexact Hx
    isplitl [HB]; · iexact HB
    iexact Hs
  iintro HF
  iapply HK
  unfold loading
  iapply (Transfers.Flight_mono EC (tile d i) ?_) $$ HF
  unfold own xpt
  rw [x_set ht ho]
  iintro ⟨HB, Hx⟩
  isplitl [HB]
  · iexists _
    isplitr
    swap
    · iexact HB
    · ipureintro
      rw [View.read_write_univ]
      funext y
      exact congrArg X (rect_emb ht ho _ y)
  · iexact Hx

/-- The wait for chunk `t`'s fetch. -/
theorem wp_arrive {Ob : CellTallies nD τ sig (HIx 1)} {W : Waits sig (HIx 1)} {t : ℕ} {M : Memref sig .scVector .hbm S16x8x128 .f32} {hsrc hdst} {Q : α → sProp 𝕄} :
    iprop(loading d i X B sm t ∗ owing d i Ob W)
      ⊢ iprop((own d i B (fun y => X (at4 i t y)) ∗ xpt d i X t ∗ semVal (tile d i, .dma sm) 0 ∗ owing d i Ob W
          -∗ wp frame (wpE (defs₀ (F := F)) 𝒱₀ (tile d i) none) Set.univ (k ⟨⟩) Q)
        -∗ wp frame (wpE (defs₀ (F := F)) 𝒱₀ (tile d i) none) Set.univ (.op (.waitDma2 sm M B hsrc hdst) k) Q) := by
  unfold loading owing
  iintro ⟨HF, #Hmw, %W', %hW, HO⟩ HK
  iapply (Transfers.wp_waitLocalO EC 𝒱₀ (tile d i) none (none : HIx 1) (dstw := B) rfl) $$ [HF HO Hmw]
  · isplitl [HF]; · iexact HF
    isplitl [HO]; · iexact HO
    iapply (Transfers.MayWaits.elim (.dma sm)) $$ Hmw
  iintro ⟨⟨HB, Hx⟩, Hs, HO⟩
  iapply HK
  isplitl [HB]; · iexact HB
  isplitl [Hx]; · iexact Hx
  isplitl [Hs]; · iexact Hs
  isplitr; · iexact Hmw
  iexists _
  isplitr
  swap
  · iexact HO
  · ipureintro
    intro p hp
    rcases Finset.mem_insert.mp hp with rfl | hp
    · exact .inr rfl
    · exact hW p hp

/-- The masked chunk `t` is sent. -/
theorem wp_send (hB : B.IsWhole) {Y : S2x16x512x2048.Idx → Elt F .f32} {t : ℕ} (ht : t < 64) (ho : off = blkOff i t) {hsrc hdst hsem} {Q : α → sProp 𝕄} :
    iprop(own d i B (masked fun y => X (at4 i t y)) ∗ opt d i Y t ∗ semVal (tile d i, .dma sm) 0)
      ⊢ iprop((sending d i X B sm t -∗ wp frame (wpE (defs₀ (F := F)) 𝒱₀ (tile d i) none) Set.univ (k ⟨⟩) Q)
        -∗ wp frame (wpE (defs₀ (F := F)) 𝒱₀ (tile d i) none) Set.univ (.op (.enqueueDma B (.here (blk oA off h)) (.dma sm) hsrc hdst hsem) k) Q) := by
  unfold own opt
  iintro ⟨⟨%f, %hf, HB⟩, Ho, Hs⟩ HK
  iapply (Transfers.wp_dmaLocal EC 𝒱₀ (tile d i) none (src := B) (dst := blk oA off h) (fs := f) (fd := Y) (q := fullShare) (Sd := cell i t)
    none NO rfl (sig.dmaCredit_pos _ _ _ _ _ (by decide)) (o_set ht ho).subset) $$ [HB Ho Hs]
  · rw [hB.set_eq_univ]
    isplitl [HB]; · iexact HB
    isplitl [Ho]; · iexact Ho
    iexact Hs
  iintro HF
  iapply HK
  unfold sending
  iapply (Transfers.Flight_mono EC (tile d i) ?_) $$ HF
  unfold own opt
  rw [hB.set_eq_univ]
  iintro ⟨Ho, HB⟩
  isplitl [Ho]
  · ihave Ho := (Entails.of_eq (pointsTo_congr (g := out X) (by
      intro z hz
      obtain ⟨y, rfl⟩ := mem_cell hz
      have e : (blk oA off h).view.emb y = at4 i t y := rect_emb ht ho _ y
      refine (congrArg _ e.symm).trans ?_
      refine (View.write_emb_of_mem (v := (blk oA off h).view) Y _ (Finset.mem_univ y)).trans ?_
      exact (congrFun hf y).trans (masked_at X i t y)))) $$ Ho
    iexact Ho
  · iexists _; iexists _
    isplitr
    swap
    · iexact HB
    · ipureintro; rfl

/-- The wait for the masked chunk `t`'s sending. -/
theorem wp_drain {Ob : CellTallies nD τ sig (HIx 1)} {W : Waits sig (HIx 1)} {t : ℕ} {hsrc hdst} {Q : α → sProp 𝕄} :
    iprop(sending d i X B sm t ∗ owing d i Ob W)
      ⊢ iprop((opt d i (out X) t ∗ (∃ v, own d i B v) ∗ semVal (tile d i, .dma sm) 0 ∗ owing d i Ob W
          -∗ wp frame (wpE (defs₀ (F := F)) 𝒱₀ (tile d i) none) Set.univ (k ⟨⟩) Q)
        -∗ wp frame (wpE (defs₀ (F := F)) 𝒱₀ (tile d i) none) Set.univ (.op (.waitDma2 sm B (blk oA off h) hsrc hdst) k) Q) := by
  unfold sending owing
  iintro ⟨HF, #Hmw, %W', %hW, HO⟩ HK
  iapply (Transfers.wp_waitLocalO EC 𝒱₀ (tile d i) none (none : HIx 1) (dstw := blk oA off h) rfl) $$ [HF HO Hmw]
  · isplitl [HF]; · iexact HF
    isplitl [HO]; · iexact HO
    iapply (Transfers.MayWaits.elim (.dma sm)) $$ Hmw
  iintro ⟨⟨Ho, HB⟩, Hs, HO⟩
  iapply HK
  isplitl [Ho]; · iexact Ho
  isplitl [HB]; · iexact HB
  isplitl [Hs]; · iexact Hs
  isplitr; · iexact Hmw
  iexists _
  isplitr
  swap
  · iexact HO
  · ipureintro
    intro p hp
    rcases Finset.mem_insert.mp hp with rfl | hp
    · exact .inr rfl
    · exact hW p hp

end Cert.Proof.KernelIdeal

end
-- ==== Proof.IdealPlaces.lean ====
/-
  Where a tile's chunks lie, and which of its branches are taken: the printed offsets and conditions in closed form.
-/
module

public import proofs.«01_k».proof.Proof.IdealCopies
public import proofs.«01_k».proof.Proof.Gen.KernelIdeal
public import proofs.«01_k».proof.Proof.Gen.KernelIdeal.Skeleton
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ValueIdx

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## The chunks' places and the branches, in closed form -/

/-- The first fetch is chunk 0's, … -/
theorem wid_off1 : ∀ i : grid0.Coords, k0_off1 i = blkOff i 0 := by decide +kernel

/-- … the fetches of trip `t` are those of chunks `4 t + 1` to `4 t + 4`, … -/
theorem off_in : ∀ (i : grid0.Coords) (t : Fin k0_t1_loop.trips), k0_off3 i t = blkOff i (4 * t.val + 1) ∧ k0_off22 i t = blkOff i (4 * t.val + 2)
    ∧ k0_off40 i t = blkOff i (4 * t.val + 3) ∧ (t.val < 15 → k0_off58 i t = blkOff i (4 * t.val + 4)) := by decide +kernel

/-- … and the stores of trip `t` are those of chunks `4 t` to `4 t + 3`. -/
theorem off_out : ∀ (i : grid0.Coords) (t : Fin k0_t1_loop.trips), k0_off4 i t 0#32 = blkOff i (4 * t.val) ∧ k0_off4 i t 1#32 = blkOff i (4 * t.val + 1)
    ∧ k0_off4 i t 2#32 = blkOff i (4 * t.val + 2) ∧ k0_off4 i t 3#32 = blkOff i (4 * t.val + 3) := by decide +kernel

/-- A fetch is made but after the last chunk, and waits for its buffer's last store but in the first trip. -/
theorem conds : ∀ t : Fin k0_t1_loop.trips, k0_cond1 t = 1#1 ∧ k0_cond3 t = 1#1 ∧ k0_cond5 t = 1#1 ∧ k0_cond8 t = 1#1
    ∧ (k0_cond2 t = 1#1 ↔ 1 ≤ t.val) ∧ (k0_cond4 t = 1#1 ↔ 1 ≤ t.val) ∧ (k0_cond6 t = 1#1 ↔ 1 ≤ t.val) ∧ (k0_cond7 t = 1#1 ↔ t.val < 15) := by decide +kernel

end Cert.Proof.KernelIdeal

end
-- ==== Proof.IdealTile.lean ====
/-
  A tile's run: 64 chunks through a ring of four staging buffers.
-/
module

public import proofs.«01_k».proof.Proof.IdealPlaces
public import proofs.«01_k».proof.Proof.Gen.KernelIdeal
public import proofs.«01_k».proof.Proof.Gen.KernelIdeal.Skeleton
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ValueIdx

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## The chunks not yet done and those done -/

section Ranges

variable {M : Type} [URA M] (P : ℕ → sProp M)

/-- The chunks from `n` on. -/
def rest (n : ℕ) : sProp M := bigSep (Finset.Ico n 64) P

/-- The chunks below `n`. -/
def done (n : ℕ) : sProp M := bigSep (Finset.range n) P

/-- The chunks still to come: the next, and those after it. -/
theorem rest_take {n : ℕ} (hn : n < 64) : rest P n = iprop(P n ∗ rest P (n + 1)) := by
  unfold rest
  have e : Finset.Ico n 64 = insert n (Finset.Ico (n + 1) 64) := by
    ext m; simp only [Finset.mem_Ico, Finset.mem_insert]; omega
  rw [e]
  exact bigSep_insert (by simp)

/-- After the last chunk none is to come. -/
theorem rest_last : rest P 64 = iprop(emp) := by
  unfold rest
  rw [Finset.Ico_self]; rfl

/-- At the start no chunk is done. -/
theorem done_zero : done P 0 = iprop(emp) := rfl

/-- One chunk more done. -/
theorem done_put (n : ℕ) : done P (n + 1) = iprop(P n ∗ done P n) := by
  unfold done
  rw [Finset.range_add_one]
  exact bigSep_insert (by simp)

end Ranges

variable [FloatOps F]

variable (d : Dev nD) (i : grid0.Coords) (X : S2x16x512x2048.Idx → Elt F .f32)

section Steps

variable (B : Memref sig .scVector .vmem S16x8x128 .f32) (si so : DmaSem sig)

/-- A buffer ready for chunk `n`: its last store (chunk `n - 4`'s, if any) may be on its way. -/
def Ready (n : ℕ) : sProp 𝕄 :=
  iprop(semVal (tile d i, .dma si) 0 ∗ if n < 4 then iprop((∃ v, own d i B v) ∗ semVal (tile d i, .dma so) 0) else sending d i X B so (n - 4))

/-- A buffer into which chunk `n` is on its way. -/
def Coming (n : ℕ) : sProp 𝕄 := iprop(loading d i X B si n ∗ semVal (tile d i, .dma so) 0)

variable {B si so} {α : Type}
  {k : PUnit → Prog (TpuEff nD τ sig (Elt F) Λ₀ (.scVector ((i 0).castLE hcore0) ((i 1).castLE hsub0))) α}

/-- A block's copy pays its semaphore something. -/
theorem credit_pos (B : Memref sig .scVector .vmem S16x8x128 .f32) : 0 < B.view.dmaCredit := sig.dmaCredit_pos _ _ _ _ _ (by decide)

/-- The refill of a buffer: wait for the store that leaves it, if there was one, then start chunk `n`'s fetch. -/
theorem wp_refill {k : Prog (TpuEff nD τ sig (Elt F) Λ₀ (.scVector ((i 0).castLE hcore0) ((i 1).castLE hsub0))) α} {Ob : CellTallies nD τ sig (HIx 1)} {W : Waits sig (HIx 1)} {c1 c2 : BitVec 1} {n : ℕ} (hn : n < 64)
    (hc1 : c1 = 1#1) (hc2 : c2 = 1#1 ↔ 4 ≤ n)
    {offx : c1 = 1#1 → Fin 4 → ℕ} {hx : ∀ h1, ∀ a, offx h1 a + S1x16x8x128.size a ≤ S2x16x512x2048.size a} (ho : ∀ h1, offx h1 = blkOff i n)
    {offw : c1 = 1#1 → c2 = 1#1 → Fin 4 → ℕ} {hw : ∀ h1 h2, ∀ a, offw h1 h2 a + S1x16x8x128.size a ≤ S2x16x512x2048.size a}
    {w1 : c1 = 1#1 → c2 = 1#1 → B.view.WordExact} {w2 : ∀ h1 h2, (blk oA (offw h1 h2) (hw h1 h2)).view.WordExact}
    {e1 : ∀ h1, (blk xA (offx h1) (hx h1)).view.WordExact} {e2 : c1 = 1#1 → B.view.WordExact} {e3 : ∀ h1 : c1 = 1#1, _} {Q : α → sProp 𝕄} :
    iprop(Ready d i X B si so n ∗ rest (xpt d i X) n ∗ done (opt d i (out X)) (n - 4) ∗ owing d i Ob W)
      ⊢ iprop((Coming d i X B si so n ∗ rest (xpt d i X) (n + 1) ∗ done (opt d i (out X)) (n + 1 - 4) ∗ owing d i Ob W
          -∗ wp frame (wpE (defs₀ (F := F)) 𝒱₀ (tile d i) none) Set.univ k Q)
        -∗ wp frame (wpE (defs₀ (F := F)) 𝒱₀ (tile d i) none) Set.univ
          (if h1 : c1 = 1#1 then
            if h2 : c2 = 1#1 then Prog.op (.waitDma2 so B (blk oA (offw h1 h2) (hw h1 h2)) (w1 h1 h2) (w2 h1 h2)) fun _ =>
              Prog.op (.enqueueDma (blk xA (offx h1) (hx h1)) (.here B) (.dma si) (e1 h1) (e2 h1) (e3 h1)) fun _ => k
            else Prog.op (.enqueueDma (blk xA (offx h1) (hx h1)) (.here B) (.dma si) (e1 h1) (e2 h1) (e3 h1)) fun _ => k
          else k) Q) := by
  rw [dif_pos hc1, rest_take _ hn]
  unfold Ready
  by_cases h4 : 4 ≤ n
  · rw [dif_pos (hc2.mpr h4), if_neg (by omega), show n + 1 - 4 = n - 4 + 1 by omega, done_put]
    iintro ⟨⟨Hi, Hb⟩, ⟨Hx, HX⟩, HO, Hw⟩ HK
    iapply (wp_drain d i X so) $$ [Hb Hw]
    · isplitl [Hb]; · iexact Hb
      iexact Hw
    iintro ⟨Ho, ⟨%v, HB⟩, Hs, Hw⟩
    iapply (wp_fetch d i X si (credit_pos B) hn (ho hc1)) $$ [HB Hx Hi]
    · isplitl [HB]; · iexact HB
      isplitl [Hx]; · iexact Hx
      iexact Hi
    iintro HF
    iapply HK
    unfold Coming
    isplitl [HF Hs]
    · isplitl [HF]; · iexact HF
      iexact Hs
    isplitl [HX]; · iexact HX
    isplitl [Ho HO]
    · isplitl [Ho]; · iexact Ho
      iexact HO
    iexact Hw
  · rw [dif_neg (fun h => h4 (hc2.mp h)), if_pos (by omega), show n + 1 - 4 = n - 4 by omega]
    iintro ⟨⟨Hi, ⟨%v, HB⟩, Hs⟩, ⟨Hx, HX⟩, HO, Hw⟩ HK
    iapply (wp_fetch d i X si (credit_pos B) hn (ho hc1)) $$ [HB Hx Hi]
    · isplitl [HB]; · iexact HB
      isplitl [Hx]; · iexact Hx
      iexact Hi
    iintro HF
    iapply HK
    unfold Coming
    isplitl [HF Hs]
    · isplitl [HF]; · iexact HF
      iexact Hs
    isplitl [HX]; · iexact HX
    isplitl [HO]; · iexact HO
    iexact Hw

/-- A buffer that holds chunk `n`, masked. -/
def Full (B : Memref sig .scVector .vmem S16x8x128 .f32) (si so : DmaSem sig) (n : ℕ) : sProp 𝕄 :=
  iprop(own d i B (masked fun y => X (at4 i n y)) ∗ semVal (tile d i, .dma si) 0 ∗ semVal (tile d i, .dma so) 0)

/-- Chunk `n` arrives and is masked. -/
theorem wp_take {Ob : CellTallies nD τ sig (HIx 1)} {W : Waits sig (HIx 1)} {n : ℕ} {M : Memref sig .scVector .hbm S16x8x128 .f32} {hsrc hdst} {β : Type}
    {L : Prog (TpuEff nD τ sig (Elt F) Λ₀ (.scVector ((i 0).castLE hcore0) ((i 1).castLE hsub0))) Unit}
    {kk : Unit → Prog (TpuEff nD τ sig (Elt F) Λ₀ (.scVector ((i 0).castLE hcore0) ((i 1).castLE hsub0))) β} {Q : β → sProp 𝕄}
    (hL : ∀ v : S16x8x128.Idx → Elt F .f32, own d i B v
      ⊢ iprop((own d i B (masked v) -∗ wp frame (wpE (defs₀ (F := F)) 𝒱₀ (tile d i) none) Set.univ (kk ()) Q)
        -∗ wp frame (wpE (defs₀ (F := F)) 𝒱₀ (tile d i) none) Set.univ (L.bind kk) Q)) :
    iprop(Coming d i X B si so n ∗ done (xpt d i X) n ∗ owing d i Ob W)
      ⊢ iprop((Full d i X B si so n ∗ done (xpt d i X) (n + 1) ∗ owing d i Ob W
          -∗ wp frame (wpE (defs₀ (F := F)) 𝒱₀ (tile d i) none) Set.univ (kk ()) Q)
        -∗ wp frame (wpE (defs₀ (F := F)) 𝒱₀ (tile d i) none) Set.univ (.op (.waitDma2 si M B hsrc hdst) fun _ => L.bind kk) Q) := by
  unfold Coming
  rw [done_put]
  iintro ⟨⟨HF, Hs⟩, HX, Hw⟩ HK
  iapply (wp_arrive d i X si) $$ [HF Hw]
  · isplitl [HF]; · iexact HF
    iexact Hw
  iintro ⟨HB, Hx, Hi, Hw⟩
  iapply (hL _) $$ HB
  iintro HB
  iapply HK
  unfold Full
  isplitl [HB Hs Hi]
  · isplitl [HB]; · iexact HB
    isplitl [Hi]; · iexact Hi
    iexact Hs
  isplitl [HX Hx]
  · isplitl [Hx]; · iexact Hx
    iexact HX
  iexact Hw

/-- Chunk `n`, masked, is sent. -/
theorem wp_give (hB : B.IsWhole) {Y : S2x16x512x2048.Idx → Elt F .f32} {n : ℕ} (hn : n < 64) {off : Fin 4 → ℕ}
    {h : ∀ a, off a + S1x16x8x128.size a ≤ S2x16x512x2048.size a} (ho : off = blkOff i n) {hsrc hdst hsem} {Q : α → sProp 𝕄} :
    iprop(Full d i X B si so n ∗ rest (opt d i Y) n)
      ⊢ iprop((Ready d i X B si so (n + 4) ∗ rest (opt d i Y) (n + 1) -∗ wp frame (wpE (defs₀ (F := F)) 𝒱₀ (tile d i) none) Set.univ (k ⟨⟩) Q)
        -∗ wp frame (wpE (defs₀ (F := F)) 𝒱₀ (tile d i) none) Set.univ (.op (.enqueueDma B (.here (blk oA off h)) (.dma so) hsrc hdst hsem) k) Q) := by
  unfold Full Ready
  rw [rest_take _ hn, if_neg (by omega), show n + 4 - 4 = n by omega]
  iintro ⟨⟨HB, Hi, Hs⟩, Ho, HO⟩ HK
  iapply (wp_send d i X so hB hn ho) $$ [HB Ho Hs]
  · isplitl [HB]; · iexact HB
    isplitl [Ho]; · iexact Ho
    iexact Hs
  iintro HF
  iapply HK
  isplitl [Hi HF]
  · isplitl [Hi]; · iexact Hi
    iexact HF
  iexact HO

/-- A buffer after the last refill due to it: chunk `n` on its way, or the buffer ready if there is no chunk `n`. -/
def Next (B : Memref sig .scVector .vmem S16x8x128 .f32) (si so : DmaSem sig) (n : ℕ) : sProp 𝕄 :=
  if n < 64 then Coming d i X B si so n else Ready d i X B si so n

end Steps

variable
    (arg4 : Memref sig .scVector .vmem S16x8x128 .f32) (harg4 : arg4.IsWhole) (arg5 : Memref sig .scVector .vmem S16x8x128 .f32) (harg5 : arg5.IsWhole)
    (arg6 : Memref sig .scVector .vmem S16x8x128 .f32) (harg6 : arg6.IsWhole) (arg7 : Memref sig .scVector .vmem S16x8x128 .f32) (harg7 : arg7.IsWhole)
    (arg8 arg9 arg10 arg11 arg12 arg13 arg14 arg15 : DmaSems sig S_) (Y : S2x16x512x2048.Idx → Elt F .f32)

/-- The second buffer is refilled. -/
theorem part25 (v29 c c' : BitVec 32) (t : Fin k0_t1_loop.trips) {Ob : CellTallies nD τ sig (HIx 1)} {W : Waits sig (HIx 1)} {Q : (Σ' (_ : BitVec 32), BitVec 32) → sProp 𝕄} :
    iprop(Ready d i X arg5 arg9.sem arg13.sem (4 * t.val + 1) ∗ rest (xpt d i X) (4 * t.val + 1) ∗ done (opt d i (out X)) (4 * t.val + 1 - 4) ∗ owing d i Ob W)
      ⊢ iprop((Coming d i X arg5 arg9.sem arg13.sem (4 * t.val + 1) ∗ rest (xpt d i X) (4 * t.val + 2) ∗ done (opt d i (out X)) (4 * t.val + 2 - 4) ∗ owing d i Ob W -∗ ∀ r, Q r)
        -∗ wp frame (wpE (defs₀ (F := F)) 𝒱₀ (tile d i) none) Set.univ
          (k0_part25 (F := F) i xA (Memref.isWhole_whole _) oA (Memref.isWhole_whole _) arg4 harg4 arg5 harg5 arg6 harg6 arg7 harg7 arg8 arg9 arg10 arg11 arg12 arg13 arg14 arg15 v29 c c' t) Q) := by
  rw [k0_part25_eq_skeleton]
  unfold k0_part25_skel
  simp only [Prog.lift, Prog.bind_op, Prog.bind_ret, Prog.pure_eq_ret]
  iintro H HK
  iapply (wp_refill d i X (B := arg5) (si := arg9.sem) (so := arg13.sem) (n := 4 * t.val + 1) (by have h : t.val < 16 := t.isLt; omega) (conds t).1 (by rw [(conds t).2.2.2.2.1]; omega) (fun _ => (off_in i t).1)) $$ H
  iintro H
  iapply (le_wp_ret _ _)
  iapply HK $$ H

/-- The first buffer's chunk arrives and is masked. -/
theorem part26 (v29 c : BitVec 32) (t : Fin k0_t1_loop.trips) {Ob : CellTallies nD τ sig (HIx 1)} {W : Waits sig (HIx 1)} {Q : PUnit → sProp 𝕄} :
    iprop(Coming d i X arg4 arg8.sem arg12.sem (4 * t.val) ∗ done (xpt d i X) (4 * t.val) ∗ owing d i Ob W)
      ⊢ iprop((Full d i X arg4 arg8.sem arg12.sem (4 * t.val) ∗ done (xpt d i X) (4 * t.val + 1) ∗ owing d i Ob W -∗ ∀ r, Q r)
        -∗ wp frame (wpE (defs₀ (F := F)) 𝒱₀ (tile d i) none) Set.univ
          (k0_part26 (F := F) i xA (Memref.isWhole_whole _) oA (Memref.isWhole_whole _) arg4 harg4 arg5 harg5 arg6 harg6 arg7 harg7 arg8 arg9 arg10 arg11 arg12 arg13 arg14 arg15 v29 t c) Q) := by
  rw [k0_part26_eq_skeleton]
  unfold k0_part26_skel
  simp only [Prog.lift, Prog.bind_op, Prog.bind_ret, Prog.pure_eq_ret]
  iintro H HK
  iapply (wp_take d i X (fun v => t2_loop d i _ _ _ _ _ _ _ _ _ _ _ _ _ _ _ _ _ _ _ _ _ _ _ v)) $$ H
  iintro H
  iapply (le_wp_ret _ _)
  iapply HK $$ H

/-- The first buffer's chunk is sent, and the third buffer refilled. -/
theorem part27 (v29 c : BitVec 32) (t : Fin k0_t1_loop.trips) {Ob : CellTallies nD τ sig (HIx 1)} {W : Waits sig (HIx 1)} {Q : (Σ' (_ : BitVec 32) (_ : BitVec 32), BitVec 32) → sProp 𝕄} :
    iprop(Full d i X arg4 arg8.sem arg12.sem (4 * t.val) ∗ rest (opt d i Y) (4 * t.val) ∗ Ready d i X arg6 arg10.sem arg14.sem (4 * t.val + 2) ∗ rest (xpt d i X) (4 * t.val + 2) ∗ done (opt d i (out X)) (4 * t.val + 2 - 4) ∗ owing d i Ob W)
      ⊢ iprop((Ready d i X arg4 arg8.sem arg12.sem (4 * t.val + 4) ∗ rest (opt d i Y) (4 * t.val + 1) ∗ Coming d i X arg6 arg10.sem arg14.sem (4 * t.val + 2) ∗ rest (xpt d i X) (4 * t.val + 3) ∗ done (opt d i (out X)) (4 * t.val + 3 - 4) ∗ owing d i Ob W -∗ ∀ r, Q r)
        -∗ wp frame (wpE (defs₀ (F := F)) 𝒱₀ (tile d i) none) Set.univ
          (k0_part27 (F := F) i xA (Memref.isWhole_whole _) oA (Memref.isWhole_whole _) arg4 harg4 arg5 harg5 arg6 harg6 arg7 harg7 arg8 arg9 arg10 arg11 arg12 arg13 arg14 arg15 v29 t c) Q) := by
  rw [k0_part27_eq_skeleton]
  unfold k0_part27_skel
  simp only [Prog.lift, Prog.bind_op, Prog.bind_ret, Prog.pure_eq_ret]
  iintro ⟨HF, HO, HR⟩ HK
  iapply (wp_give d i X (si := arg8.sem) harg4 (by have h : t.val < 16 := t.isLt; omega) ((off_out i t).1)) $$ [HF HO]
  · isplitl [HF]; · iexact HF
    iexact HO
  iintro ⟨HF, HO⟩
  iapply (wp_refill d i X (B := arg6) (si := arg10.sem) (so := arg14.sem) (n := 4 * t.val + 2) (by have h : t.val < 16 := t.isLt; omega) (conds t).2.1 (by rw [(conds t).2.2.2.2.2.1]; omega) (fun _ => (off_in i t).2.1)) $$ HR
  iintro HR
  iapply (le_wp_ret _ _)
  ihave HQ := HK $$ [HF HO HR]
  swap
  · ispecialize HQ $$ %(PSigma.mk _ _)
    iexact HQ
  isplitl [HF]; · iexact HF
  isplitl [HO]; · iexact HO
  iexact HR

/-- The second buffer's chunk arrives and is masked. -/
theorem part28 (v29 v132 v163 c : BitVec 32) (t : Fin k0_t1_loop.trips) {Ob : CellTallies nD τ sig (HIx 1)} {W : Waits sig (HIx 1)} {Q : PUnit → sProp 𝕄} :
    iprop(Coming d i X arg5 arg9.sem arg13.sem (4 * t.val + 1) ∗ done (xpt d i X) (4 * t.val + 1) ∗ owing d i Ob W)
      ⊢ iprop((Full d i X arg5 arg9.sem arg13.sem (4 * t.val + 1) ∗ done (xpt d i X) (4 * t.val + 2) ∗ owing d i Ob W -∗ ∀ r, Q r)
        -∗ wp frame (wpE (defs₀ (F := F)) 𝒱₀ (tile d i) none) Set.univ
          (k0_part28 (F := F) i xA (Memref.isWhole_whole _) oA (Memref.isWhole_whole _) arg4 harg4 arg5 harg5 arg6 harg6 arg7 harg7 arg8 arg9 arg10 arg11 arg12 arg13 arg14 arg15 v29 t v132 v163 c) Q) := by
  rw [k0_part28_eq_skeleton]
  unfold k0_part28_skel
  simp only [Prog.lift, Prog.bind_op, Prog.bind_ret, Prog.pure_eq_ret]
  iintro H HK
  iapply (wp_take d i X (fun v => by rw [t3_eq]; exact t2_loop d i _ _ _ _ _ _ _ _ _ _ _ _ _ _ _ _ _ _ _ _ _ _ _ v)) $$ H
  iintro H
  iapply (le_wp_ret _ _)
  iapply HK $$ H

/-- The second buffer's chunk is sent, and the fourth buffer refilled. -/
theorem part29 (v29 c : BitVec 32) (t : Fin k0_t1_loop.trips) {Ob : CellTallies nD τ sig (HIx 1)} {W : Waits sig (HIx 1)} {Q : (Σ' (_ : BitVec 32) (_ : BitVec 32) (_ : BitVec 32), BitVec 32) → sProp 𝕄} :
    iprop(Full d i X arg5 arg9.sem arg13.sem (4 * t.val + 1) ∗ rest (opt d i Y) (4 * t.val + 1) ∗ Ready d i X arg7 arg11.sem arg15.sem (4 * t.val + 3) ∗ rest (xpt d i X) (4 * t.val + 3) ∗ done (opt d i (out X)) (4 * t.val + 3 - 4) ∗ owing d i Ob W)
      ⊢ iprop((Ready d i X arg5 arg9.sem arg13.sem (4 * t.val + 1 + 4) ∗ rest (opt d i Y) (4 * t.val + 2) ∗ Coming d i X arg7 arg11.sem arg15.sem (4 * t.val + 3) ∗ rest (xpt d i X) (4 * t.val + 4) ∗ done (opt d i (out X)) (4 * t.val + 4 - 4) ∗ owing d i Ob W -∗ ∀ r, Q r)
        -∗ wp frame (wpE (defs₀ (F := F)) 𝒱₀ (tile d i) none) Set.univ
          (k0_part29 (F := F) i xA (Memref.isWhole_whole _) oA (Memref.isWhole_whole _) arg4 harg4 arg5 harg5 arg6 harg6 arg7 harg7 arg8 arg9 arg10 arg11 arg12 arg13 arg14 arg15 v29 t c) Q) := by
  rw [k0_part29_eq_skeleton]
  unfold k0_part29_skel
  simp only [Prog.lift, Prog.bind_op, Prog.bind_ret, Prog.pure_eq_ret]
  iintro ⟨HF, HO, HR⟩ HK
  iapply (wp_give d i X (si := arg9.sem) harg5 (by have h : t.val < 16 := t.isLt; omega) ((off_out i t).2.1)) $$ [HF HO]
  · isplitl [HF]; · iexact HF
    iexact HO
  iintro ⟨HF, HO⟩
  iapply (wp_refill d i X (B := arg7) (si := arg11.sem) (so := arg15.sem) (n := 4 * t.val + 3) (by have h : t.val < 16 := t.isLt; omega) (conds t).2.2.1 (by rw [(conds t).2.2.2.2.2.2.1]; omega) (fun _ => (off_in i t).2.2.1)) $$ HR
  iintro HR
  iapply (le_wp_ret _ _)
  ihave HQ := HK $$ [HF HO HR]
  swap
  · ispecialize HQ $$ %(PSigma.mk _ _)
    iexact HQ
  isplitl [HF]; · iexact HF
  isplitl [HO]; · iexact HO
  iexact HR

/-- The third buffer's chunk arrives and is masked. -/
theorem part30 (v29 v207 v228 v238 c : BitVec 32) (t : Fin k0_t1_loop.trips) {Ob : CellTallies nD τ sig (HIx 1)} {W : Waits sig (HIx 1)} {Q : (Σ' (_ : BitVec 32), BitVec 32) → sProp 𝕄} :
    iprop(Coming d i X arg6 arg10.sem arg14.sem (4 * t.val + 2) ∗ done (xpt d i X) (4 * t.val + 2) ∗ owing d i Ob W)
      ⊢ iprop((Full d i X arg6 arg10.sem arg14.sem (4 * t.val + 2) ∗ done (xpt d i X) (4 * t.val + 3) ∗ owing d i Ob W -∗ ∀ r, Q r)
        -∗ wp frame (wpE (defs₀ (F := F)) 𝒱₀ (tile d i) none) Set.univ
          (k0_part30 (F := F) i xA (Memref.isWhole_whole _) oA (Memref.isWhole_whole _) arg4 harg4 arg5 harg5 arg6 harg6 arg7 harg7 arg8 arg9 arg10 arg11 arg12 arg13 arg14 arg15 v29 t v207 v228 v238 c) Q) := by
  rw [k0_part30_eq_skeleton]
  unfold k0_part30_skel
  simp only [Prog.lift, Prog.bind_op, Prog.bind_ret, Prog.pure_eq_ret]
  iintro H HK
  iapply (wp_take d i X (fun v => by rw [t4_eq]; exact t2_loop (kk := fun _ => Prog.ret _) d i _ _ _ _ _ _ _ _ _ _ _ _ _ _ _ _ _ _ _ _ _ _ _ v)) $$ H
  iintro H
  iapply (le_wp_ret _ _)
  iapply HK $$ H

set_option maxRecDepth 65536 in
/-- The third buffer's chunk is sent, and the first buffer refilled but in the last trip. -/
theorem part31 (v29 c v273 v274 : BitVec 32) (t : Fin k0_t1_loop.trips) {Ob : CellTallies nD τ sig (HIx 1)} {W : Waits sig (HIx 1)} {Q : (Σ' (_ : BitVec 32) (_ : BitVec 32) (_ : BitVec 32) (_ : BitVec 32), BitVec 1) → sProp 𝕄} :
    iprop(Full d i X arg6 arg10.sem arg14.sem (4 * t.val + 2) ∗ rest (opt d i Y) (4 * t.val + 2) ∗ Ready d i X arg4 arg8.sem arg12.sem (4 * t.val + 4) ∗ rest (xpt d i X) (4 * t.val + 4) ∗ done (opt d i (out X)) (4 * t.val + 4 - 4) ∗ owing d i Ob W)
      ⊢ iprop((Ready d i X arg6 arg10.sem arg14.sem (4 * t.val + 2 + 4) ∗ rest (opt d i Y) (4 * t.val + 3) ∗ Next d i X arg4 arg8.sem arg12.sem (4 * t.val + 4) ∗ rest (xpt d i X) (min (4 * t.val + 5) 64) ∗ done (opt d i (out X)) (min (4 * t.val + 5) 64 - 4) ∗ owing d i Ob W -∗ ∀ r, Q r)
        -∗ wp frame (wpE (defs₀ (F := F)) 𝒱₀ (tile d i) none) Set.univ
          (k0_part31 (F := F) i xA (Memref.isWhole_whole _) oA (Memref.isWhole_whole _) arg4 harg4 arg5 harg5 arg6 harg6 arg7 harg7 arg8 arg9 arg10 arg11 arg12 arg13 arg14 arg15 v29 t c v273 v274) Q) := by
  rw [k0_part31_eq_skeleton]
  unfold k0_part31_skel
  have ht : t.val < 16 := t.isLt
  simp only [Prog.lift, Prog.bind_op, Prog.bind_ret, Prog.pure_eq_ret]
  iintro ⟨HF, HO, HR⟩ HK
  iapply (wp_give d i X (si := arg10.sem) harg6 (by have h : t.val < 16 := t.isLt; omega) ((off_out i t).2.2.1)) $$ [HF HO]
  · isplitl [HF]; · iexact HF
    iexact HO
  iintro ⟨HF, HO⟩
  by_cases h : t.val < 15
  · iapply (wp_refill d i X (B := arg4) (si := arg8.sem) (so := arg12.sem) (n := 4 * t.val + 4) (by have h : t.val < 16 := t.isLt; omega) ((conds t).2.2.2.2.2.2.2.mpr h) (by rw [eq_true (conds t).2.2.2.1]; simp) (fun _ => (off_in i t).2.2.2 h)) $$ HR
    iintro HR
    iapply (le_wp_ret _ _)
    unfold Next
    rw [if_pos (by omega), min_eq_left (by omega)]
    ihave HQ := HK $$ [HF HO HR]
    swap
    · ispecialize HQ $$ %(PSigma.mk _ _)
      iexact HQ
    isplitl [HF]; · iexact HF
    isplitl [HO]; · iexact HO
    iexact HR
  · rw [dif_neg (fun hc => h ((conds t).2.2.2.2.2.2.2.mp hc))]
    iapply (le_wp_ret _ _)
    unfold Next
    rw [if_neg (by omega), min_eq_right (by omega), show 64 = 4 * t.val + 4 by omega]
    ihave HQ := HK $$ [HF HO HR]
    swap
    · ispecialize HQ $$ %(PSigma.mk _ _)
      iexact HQ
    isplitl [HF]; · iexact HF
    isplitl [HO]; · iexact HO
    iexact HR

/-- The fourth buffer's chunk arrives and is masked. -/
theorem part32 (v29 a b c e : BitVec 32) (g : BitVec 1) (t : Fin k0_t1_loop.trips) {Ob : CellTallies nD τ sig (HIx 1)} {W : Waits sig (HIx 1)} {Q : (Σ' (_ : BitVec 32) (_ : BitVec 32) (_ : BitVec 1), BitVec 32) → sProp 𝕄} :
    iprop(Coming d i X arg7 arg11.sem arg15.sem (4 * t.val + 3) ∗ done (xpt d i X) (4 * t.val + 3) ∗ owing d i Ob W)
      ⊢ iprop((Full d i X arg7 arg11.sem arg15.sem (4 * t.val + 3) ∗ done (xpt d i X) (4 * t.val + 4) ∗ owing d i Ob W -∗ ∀ r, Q r)
        -∗ wp frame (wpE (defs₀ (F := F)) 𝒱₀ (tile d i) none) Set.univ
          (k0_part32 (F := F) i xA (Memref.isWhole_whole _) oA (Memref.isWhole_whole _) arg4 harg4 arg5 harg5 arg6 harg6 arg7 harg7 arg8 arg9 arg10 arg11 arg12 arg13 arg14 arg15 v29 t a b c e g) Q) := by
  rw [k0_part32_eq_skeleton]
  unfold k0_part32_skel
  simp only [Prog.lift, Prog.bind_op, Prog.bind_ret, Prog.pure_eq_ret]
  iintro H HK
  iapply (wp_take d i X (fun v => by rw [t5_eq]; exact t2_loop (kk := fun _ => Prog.ret _) d i _ _ _ _ _ _ _ _ _ _ _ _ _ _ _ _ _ _ _ _ _ _ _ v)) $$ H
  iintro H
  iapply (le_wp_ret _ _)
  iapply HK $$ H

end Cert.Proof.KernelIdeal

end
-- ==== Proof.IdealRing.lean ====
/-
  A tile's whole run: the loop's trips over the ring of four buffers, and the stores' last waits.
-/
module

public import proofs.«01_k».proof.Proof.IdealTile
public import proofs.«01_k».proof.Proof.Gen.KernelIdeal
public import proofs.«01_k».proof.Proof.Gen.KernelIdeal.Skeleton
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ValueIdx

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]

variable (d : Dev nD) (i : grid0.Coords) (X : S2x16x512x2048.Idx → Elt F .f32)

variable
    (arg4 : Memref sig .scVector .vmem S16x8x128 .f32) (harg4 : arg4.IsWhole) (arg5 : Memref sig .scVector .vmem S16x8x128 .f32) (harg5 : arg5.IsWhole)
    (arg6 : Memref sig .scVector .vmem S16x8x128 .f32) (harg6 : arg6.IsWhole) (arg7 : Memref sig .scVector .vmem S16x8x128 .f32) (harg7 : arg7.IsWhole)
    (arg8 arg9 arg10 arg11 arg12 arg13 arg14 arg15 : DmaSems sig S_) (Y : S2x16x512x2048.Idx → Elt F .f32)

/-- What the tile holds when the chunks below `4 n` are done: chunk `4 n` on its way into the first buffer. -/
def Ring (Ob : CellTallies nD τ sig (HIx 1)) (W : Waits sig (HIx 1)) (n : ℕ) : sProp 𝕄 :=
  iprop(Next d i X arg4 arg8.sem arg12.sem (4 * n) ∗ Ready d i X arg5 arg9.sem arg13.sem (4 * n + 1)
    ∗ Ready d i X arg6 arg10.sem arg14.sem (4 * n + 2) ∗ Ready d i X arg7 arg11.sem arg15.sem (4 * n + 3)
    ∗ done (xpt d i X) (4 * n) ∗ rest (opt d i Y) (4 * n)
    ∗ rest (xpt d i X) (min (4 * n + 1) 64) ∗ done (opt d i (out X)) (min (4 * n + 1) 64 - 4) ∗ owing d i Ob W)

/-- One trip of the tile's loop: four chunks. -/
theorem t1_trip (v29 c : BitVec 32) (t : Fin k0_t1_loop.trips) {Ob : CellTallies nD τ sig (HIx 1)} {W : Waits sig (HIx 1)} :
    Ring d i X arg4 arg5 arg6 arg7 arg8 arg9 arg10 arg11 arg12 arg13 arg14 arg15 Y Ob W t.val
      ⊢ wp frame (wpE (defs₀ (F := F)) 𝒱₀ (tile d i) none) Set.univ
          (k0_t1_body (F := F) i xA (Memref.isWhole_whole _) oA (Memref.isWhole_whole _) arg4 harg4 arg5 harg5 arg6 harg6 arg7 harg7 arg8 arg9 arg10 arg11 arg12 arg13 arg14 arg15 v29 c t ())
          fun _ => Ring d i X arg4 arg5 arg6 arg7 arg8 arg9 arg10 arg11 arg12 arg13 arg14 arg15 Y Ob W (t.val + 1) := by
  have ht : t.val < 16 := t.isLt
  unfold k0_t1_body Ring Next
  rw [if_pos (by omega), min_eq_left (by omega)]
  iintro ⟨HA, HB, HC, HD, Hx, Ho, HX, HO, Hw⟩
  rw [wp_bind]
  iapply (part25 d i X arg4 harg4 arg5 harg5 arg6 harg6 arg7 harg7 arg8 arg9 arg10 arg11 arg12 arg13 arg14 arg15 v29 c 1#32 t) $$ [HB HX HO Hw]
  · isplitl [HB]; · iexact HB
    isplitl [HX]; · iexact HX
    isplitl [HO]; · iexact HO
    iexact Hw
  iintro ⟨HB, HX, HO, Hw⟩ %r25
  rw [wp_bind]
  iapply (part26 d i X arg4 harg4 arg5 harg5 arg6 harg6 arg7 harg7 arg8 arg9 arg10 arg11 arg12 arg13 arg14 arg15 v29 _ t) $$ [HA Hx Hw]
  · isplitl [HA]; · iexact HA
    isplitl [Hx]; · iexact Hx
    iexact Hw
  iintro ⟨HA, Hx, Hw⟩ %r26
  rw [wp_bind]
  iapply (part27 d i X arg4 harg4 arg5 harg5 arg6 harg6 arg7 harg7 arg8 arg9 arg10 arg11 arg12 arg13 arg14 arg15 Y v29 _ t) $$ [HA Ho HC HX HO Hw]
  · isplitl [HA]; · iexact HA
    isplitl [Ho]; · iexact Ho
    isplitl [HC]; · iexact HC
    isplitl [HX]; · iexact HX
    isplitl [HO]; · iexact HO
    iexact Hw
  iintro ⟨HA, Ho, HC, HX, HO, Hw⟩ %r27
  rw [wp_bind]
  iapply (part28 d i X arg4 harg4 arg5 harg5 arg6 harg6 arg7 harg7 arg8 arg9 arg10 arg11 arg12 arg13 arg14 arg15 v29 _ _ _ t) $$ [HB Hx Hw]
  · isplitl [HB]; · iexact HB
    isplitl [Hx]; · iexact Hx
    iexact Hw
  iintro ⟨HB, Hx, Hw⟩ %r28
  rw [wp_bind]
  iapply (part29 d i X arg4 harg4 arg5 harg5 arg6 harg6 arg7 harg7 arg8 arg9 arg10 arg11 arg12 arg13 arg14 arg15 Y v29 _ t) $$ [HB Ho HD HX HO Hw]
  · isplitl [HB]; · iexact HB
    isplitl [Ho]; · iexact Ho
    isplitl [HD]; · iexact HD
    isplitl [HX]; · iexact HX
    isplitl [HO]; · iexact HO
    iexact Hw
  iintro ⟨HB, Ho, HD, HX, HO, Hw⟩ %r29
  rw [wp_bind]
  iapply (part30 d i X arg4 harg4 arg5 harg5 arg6 harg6 arg7 harg7 arg8 arg9 arg10 arg11 arg12 arg13 arg14 arg15 v29 _ _ _ _ t) $$ [HC Hx Hw]
  · isplitl [HC]; · iexact HC
    isplitl [Hx]; · iexact Hx
    iexact Hw
  iintro ⟨HC, Hx, Hw⟩ %r30
  rw [wp_bind]
  iapply (part31 d i X arg4 harg4 arg5 harg5 arg6 harg6 arg7 harg7 arg8 arg9 arg10 arg11 arg12 arg13 arg14 arg15 Y v29 _ _ _ t) $$ [HC Ho HA HX HO Hw]
  · isplitl [HC]; · iexact HC
    isplitl [Ho]; · iexact Ho
    isplitl [HA]; · iexact HA
    isplitl [HX]; · iexact HX
    isplitl [HO]; · iexact HO
    iexact Hw
  iintro ⟨HC, Ho, HA, HX, HO, Hw⟩ %r31
  rw [wp_bind]
  iapply (part32 d i X arg4 harg4 arg5 harg5 arg6 harg6 arg7 harg7 arg8 arg9 arg10 arg11 arg12 arg13 arg14 arg15 v29 _ _ _ _ _ t) $$ [HD Hx Hw]
  · isplitl [HD]; · iexact HD
    isplitl [Hx]; · iexact Hx
    iexact Hw
  iintro ⟨HD, Hx, Hw⟩ %r32
  iapply (wp_give d i X (si := arg11.sem) harg7 (n := 4 * t.val + 3) (by omega) ((off_out i t).2.2.2)) $$ [HD Ho]
  · isplitl [HD]; · iexact HD
    iexact Ho
  iintro ⟨HD, Ho⟩
  iapply (le_wp_ret _ _)
  rw [show 4 * (t.val + 1) = 4 * t.val + 4 by omega]
  unfold Next
  isplitl [HA]; · iexact HA
  isplitl [HB]; · iexact HB
  isplitl [HC]; · iexact HC
  isplitl [HD]; · iexact HD
  isplitl [Hx]; · iexact Hx
  isplitl [Ho]; · iexact Ho
  isplitl [HX]; · iexact HX
  isplitl [HO]; · iexact HO
  iexact Hw

/-- What the tile's buffers and semaphores are before and after its run: the buffers at some contents, the semaphores at zero. -/
def Idle : sProp 𝕄 :=
  iprop((∃ v, own d i arg4 v) ∗ (∃ v, own d i arg5 v) ∗ (∃ v, own d i arg6 v) ∗ (∃ v, own d i arg7 v)
    ∗ semVal (tile d i, .dma arg8.sem) 0 ∗ semVal (tile d i, .dma arg9.sem) 0 ∗ semVal (tile d i, .dma arg10.sem) 0 ∗ semVal (tile d i, .dma arg11.sem) 0
    ∗ semVal (tile d i, .dma arg12.sem) 0 ∗ semVal (tile d i, .dma arg13.sem) 0 ∗ semVal (tile d i, .dma arg14.sem) 0 ∗ semVal (tile d i, .dma arg15.sem) 0)

/-- A tile's run: its 64 chunks of `o` end at the masked array. -/
theorem tile_run {Ob : CellTallies nD τ sig (HIx 1)} {W : Waits sig (HIx 1)} :
    iprop(Idle d i arg4 arg5 arg6 arg7 arg8 arg9 arg10 arg11 arg12 arg13 arg14 arg15 ∗ rest (xpt d i X) 0 ∗ rest (opt d i Y) 0 ∗ owing d i Ob W)
      ⊢ wp frame (wpE (defs₀ (F := F)) 𝒱₀ (tile d i) none) Set.univ
          (cc0__sc_topk_mask (F := F) i xA (Memref.isWhole_whole _) oA (Memref.isWhole_whole _) arg4 harg4 arg5 harg5 arg6 harg6 arg7 harg7 arg8 arg9 arg10 arg11 arg12 arg13 arg14 arg15)
          fun _ => iprop(Idle d i arg4 arg5 arg6 arg7 arg8 arg9 arg10 arg11 arg12 arg13 arg14 arg15 ∗ done (xpt d i X) 64 ∗ done (opt d i (out X)) 64 ∗ owing d i Ob W) := by
  rw [cc0__sc_topk_mask_eq_skeleton]
  unfold cc0__sc_topk_mask_skel
  rw [k0_part33_eq_skeleton]
  unfold k0_part33_skel
  simp only [Prog.lift, Prog.bind_op, Prog.bind_ret, Prog.pure_eq_ret]
  unfold Idle
  rw [rest_take _ (by decide)]
  iintro ⟨⟨⟨%v, HA⟩, HB, HC, HD, Ia, Ib, Ic, Id, Oa, Ob, Oc, Od⟩, ⟨Hx, HX⟩, HO, Hw⟩
  iapply (wp_fetch d i X arg8.sem (credit_pos arg4) (by decide) (wid_off1 i)) $$ [HA Hx Ia]
  · isplitl [HA]; · iexact HA
    isplitl [Hx]; · iexact Hx
    iexact Ia
  iintro HA
  iapply (Scf.wp_for_bind frame (wpE (defs₀ (F := F)) 𝒱₀ (tile d i) none) Set.univ _ _ _ k0_t1_ok () _
    (fun n _ => Ring d i X arg4 arg5 arg6 arg7 arg8 arg9 arg10 arg11 arg12 arg13 arg14 arg15 Y Ob W n) (fun t acc => t1_trip d i X arg4 harg4 arg5 harg5 arg6 harg6 arg7 harg7 arg8 arg9 arg10 arg11 arg12 arg13 arg14 arg15 Y _ _ t)) $$ [HA HB HC HD Ib Ic Id Oa Ob Oc Od HX HO Hw]
  · unfold Ring Next Ready Coming
    rw [if_pos (by decide), if_pos (by decide), if_pos (by decide), if_pos (by decide)]
    isplitl [HA Oa]
    · isplitl [HA]; · iexact HA
      iexact Oa
    isplitl [HB Ib Ob]
    · isplitl [Ib]; · iexact Ib
      isplitl [HB]; · iexact HB
      iexact Ob
    isplitl [HC Ic Oc]
    · isplitl [Ic]; · iexact Ic
      isplitl [HC]; · iexact HC
      iexact Oc
    isplitl [HD Id Od]
    · isplitl [Id]; · iexact Id
      isplitl [HD]; · iexact HD
      iexact Od
    isplitr; · rw [show 4 * 0 = 0 from rfl, done_zero]; iempintro
    isplitl [HO]; · iexact HO
    isplitl [HX]; · iexact HX
    isplitr; · rw [show min (4 * 0 + 1) 64 - 4 = 0 from rfl, done_zero]; iempintro
    iexact Hw
  iintro %acc HR
  rw [show Scf.trips k0_t1_loop.lb k0_t1_loop.ub k0_t1_loop.st = 16 from rfl]
  unfold Ring Next Ready
  rw [if_neg (by decide), if_neg (by decide), if_neg (by decide), if_neg (by decide), if_neg (by decide)]
  icases HR with ⟨⟨Ia, HA⟩, ⟨Ib, HB⟩, ⟨Ic, HC⟩, ⟨Id, HD⟩, Hx, -, -, HO, Hw⟩
  iapply (wp_drain d i X arg12.sem) $$ [HA Hw]
  · isplitl [HA]; · iexact HA
    iexact Hw
  iintro ⟨H0, HA, Oa, Hw⟩
  iapply (wp_drain d i X arg13.sem) $$ [HB Hw]
  · isplitl [HB]; · iexact HB
    iexact Hw
  iintro ⟨H1, HB, Ob, Hw⟩
  iapply (wp_drain d i X arg14.sem) $$ [HC Hw]
  · isplitl [HC]; · iexact HC
    iexact Hw
  iintro ⟨H2, HC, Oc, Hw⟩
  iapply (wp_drain d i X arg15.sem) $$ [HD Hw]
  · isplitl [HD]; · iexact HD
    iexact Hw
  iintro ⟨H3, HD, Od, Hw⟩
  iapply (le_wp_ret _ _)
  rw [show (64 : ℕ) = 60 + 1 + 1 + 1 + 1 from rfl, done_put (opt d i (out X)), done_put (opt d i (out X)), done_put (opt d i (out X)), done_put (opt d i (out X))]
  isplitl [HA HB HC HD Ia Ib Ic Id Oa Ob Oc Od]
  · isplitl [HA]; · iexact HA
    isplitl [HB]; · iexact HB
    isplitl [HC]; · iexact HC
    isplitl [HD]; · iexact HD
    isplitl [Ia]; · iexact Ia
    isplitl [Ib]; · iexact Ib
    isplitl [Ic]; · iexact Ic
    isplitl [Id]; · iexact Id
    isplitl [Oa]; · iexact Oa
    isplitl [Ob]; · iexact Ob
    isplitl [Oc]; · iexact Oc
    iexact Od
  isplitl [Hx]; · iexact Hx
  isplitl [H0 H1 H2 H3 HO]
  · isplitl [H3]; · iexact H3
    isplitl [H2]; · iexact H2
    isplitl [H1]; · iexact H1
    isplitl [H0]; · iexact H0
    iexact HO
  iexact Hw

end Cert.Proof.KernelIdeal

end
-- ==== Proof.IdealRun.lean ====
/-
  The launch: the array split among the 32 tiles, each tile's run from what its task is given, and the whole program's
  run: `x` unchanged, `o` the masked `x`, every semaphore at zero.
-/
module

public import proofs.«01_k».proof.Proof.IdealRing
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.Tactic
public import Idealize.ShloMosaic.Lib.ValueIdx

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-- What the launch asks of the call's semaphores: they are distinct where they must be, and none is scoped. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The grid coordinates of vector subcore `s` of SparseCore `c`. -/
def coords (c : Fin (grid0.bound 0)) (s : Fin (grid0.bound 1)) : grid0.Coords :=
  fun | 0 => c | 1 => s | ⟨_ + 2, h⟩ => absurd h (Nat.not_lt.2 (Nat.le_add_left _ _))

/-- `x` and `o` as locations of device `d`. -/
abbrev xLoc (d : Dev nD) : Loc nD τ sig := (SparseCore.T d).loc main_arg0
abbrev oLoc (d : Dev nD) : Loc nD τ sig := (SparseCore.T d).loc main_v0

/-! ## The array is the tiles' chunks -/

/-- The SparseCore, the subcore and the chunk, all of them. -/
def places : Finset (Fin 2 × Fin 16 × ℕ) := Finset.univ ×ˢ Finset.univ ×ˢ Finset.range 64

/-- The elements of one of them. -/
def cellOf (p : Fin 2 × Fin 16 × ℕ) : Finset S2x16x512x2048.Idx := cell (coords p.1 p.2.1) p.2.2

/-- The tile's number at SparseCore `c` and tile `s`. -/
theorem wid_coords (c : Fin 2) (s : Fin 16) : wid (coords c s) = 2 * s.val + c.val := rfl

/-- Different chunks, of one tile or of two, have no element in common. -/
theorem cells_disjoint : ∀ p ∈ places, ∀ q ∈ places, p ≠ q → Disjoint (cellOf p) (cellOf q) := by
  rintro ⟨c, s, t⟩ - ⟨c', s', t'⟩ - hne
  refine Finset.disjoint_left.mpr fun z hz hz' => hne ?_
  obtain ⟨-, ha, hb⟩ := Finset.mem_filter.mp hz
  obtain ⟨-, ha', hb'⟩ := Finset.mem_filter.mp hz'
  rw [wid_coords] at ha ha'
  have e : 2 * s.val + c.val = 2 * s'.val + c'.val := ha.symm.trans ha'
  have hc := c.isLt
  have hc' := c'.isLt
  have ec : c = c' := Fin.ext (by omega)
  have es : s = s' := Fin.ext (by omega)
  have et : t = t' := hb.symm.trans hb'
  rw [ec, es, et]

/-- Every element of the array lies in some tile's chunk. -/
theorem mem_some_cell (z : S2x16x512x2048.Idx) : ∃ p ∈ places, z ∈ cellOf p := by
  have h0 : (z 0 : Fin 2).val < 2 := (z 0 : Fin 2).isLt
  have h2 : (z 2 : Fin 512).val < 512 := (z 2 : Fin 512).isLt
  have h3 : (z 3 : Fin 2048).val < 2048 := (z 3 : Fin 2048).isLt
  generalize hw : (z 0 : Fin 2).val * 16 + (z 2 : Fin 512).val / 32 = w
  generalize ht : (z 2 : Fin 512).val % 32 / 8 * 16 + (z 3 : Fin 2048).val / 128 = t
  have hw' : w / 2 < 16 := by omega
  have ht' : t < 64 := by omega
  refine ⟨(⟨w % 2, Nat.mod_lt _ (by decide)⟩, ⟨w / 2, hw'⟩, t),
    Finset.mem_product.mpr ⟨Finset.mem_univ _, Finset.mem_product.mpr ⟨Finset.mem_univ _, Finset.mem_range.mpr ht'⟩⟩, ?_⟩
  refine Finset.mem_filter.mpr ⟨Finset.mem_univ _, hw.trans ?_, ht⟩
  rw [wid_coords]
  show w = 2 * (w / 2) + w % 2
  omega

/-- Places whose cells reach every element cover the array. -/
theorem cover_of (Q : Finset (Fin 2 × Fin 16 × ℕ)) (h : ∀ z, ∃ p ∈ Q, z ∈ cellOf p) : Q.biUnion cellOf = Finset.univ := by
  refine Finset.eq_univ_iff_forall.mpr ?_
  intro z
  refine Finset.mem_biUnion.mpr ?_
  exact h z

/-- The 32 tiles' chunks cover the array. -/
theorem cells_cover : places.biUnion cellOf = Finset.univ := cover_of places mem_some_cell

/-- `x` whole is the tiles' chunks of it … -/
theorem x_split (d : Dev nD) (X : S2x16x512x2048.Idx → Elt F .f32) :
    (xLoc d ↦{fullShare} X : sProp 𝕄)
      = bigSep Finset.univ fun c : Fin 2 => bigSep Finset.univ fun s : Fin 16 => bigSep (Finset.range 64) (xpt d (coords c s) X) := by
  have e := pointsTo_biUnion (Ix := HIx 1) (Val := Elt F) (Name := ℕ) (U := UU) (Lvl := ℕ) (ℓ := xLoc d) (q := fullShare) (f := X) places cellOf cells_disjoint
  rw [cells_cover] at e
  unfold places at e
  rw [SparseCore.bigSep_product] at e
  rw [e]
  exact bigSep_congr fun c _ => SparseCore.bigSep_product _ _ _

/-- … and `o` whole of `o`. -/
theorem o_split (d : Dev nD) (X : S2x16x512x2048.Idx → Elt F .f32) :
    (oLoc d ↦{fullShare} X : sProp 𝕄)
      = bigSep Finset.univ fun c : Fin 2 => bigSep Finset.univ fun s : Fin 16 => bigSep (Finset.range 64) (opt d (coords c s) X) := by
  have e := pointsTo_biUnion (Ix := HIx 1) (Val := Elt F) (Name := ℕ) (U := UU) (Lvl := ℕ) (ℓ := oLoc d) (q := fullShare) (f := X) places cellOf cells_disjoint
  rw [cells_cover] at e
  unfold places at e
  rw [SparseCore.bigSep_product] at e
  rw [e]
  exact bigSep_congr fun c _ => SparseCore.bigSep_product _ _ _

/-- What a tile is given and gives back: its chunks of `x` and of `o`. -/
def chunks (d : Dev nD) (i : grid0.Coords) (X Y : S2x16x512x2048.Idx → Elt F .f32) : sProp 𝕄 :=
  iprop(bigSep (Finset.range 64) (xpt d i X) ∗ bigSep (Finset.range 64) (opt d i Y))

instance chunks_storable (d : Dev nD) (i : grid0.Coords) (X Y : S2x16x512x2048.Idx → Elt F .f32) : BI.Storable (upEmb : UEmb _ 𝕄) (chunks d i X Y) := by
  unfold chunks xpt opt
  infer_instance

instance share_storable (d : Dev nD) (c : Fin 2) (X Y : S2x16x512x2048.Idx → Elt F .f32) :
    BI.Storable (upEmb : UEmb _ 𝕄) (bigSep Finset.univ fun s : Fin 16 => chunks d (coords c s) X Y) := by
  haveI : ∀ s : Fin 16, BI.Storable (upEmb : UEmb _ 𝕄) (chunks d (coords c s) X Y) := fun s => chunks_storable d (coords c s) X Y
  exact BI.Storable.bigSep (ι := (upEmb : UEmb _ 𝕄)) _ _

/-- The two arrays, held whole, are every tile's chunks of them. -/
theorem both_split (d : Dev nD) (X Y : S2x16x512x2048.Idx → Elt F .f32) :
    (iprop((xLoc d ↦{fullShare} X) ∗ oLoc d ↦{fullShare} Y) : sProp 𝕄)
      = bigSep Finset.univ fun c : Fin 2 => bigSep Finset.univ fun s : Fin 16 => chunks d (coords c s) X Y := by
  unfold chunks
  rw [x_split, o_split, ← bigSep_sep']
  exact bigSep_congr fun c _ => (bigSep_sep' _ _ _).symm

/-! ## A tile's own buffers and semaphores -/

/-- The kernel's eight semaphores. -/
abbrev sems : Finset (SemLoc sig) :=
  {.dma cc0_scratch4.sem, .dma cc0_scratch5.sem, .dma cc0_scratch6.sem, .dma cc0_scratch7.sem, .dma cc0_scratch8.sem, .dma cc0_scratch9.sem, .dma cc0_scratch10.sem, .dma cc0_scratch11.sem}

/-- The kernel's four staging buffers. -/
abbrev bufs : Finset (Ref sig .scVector) := {cc0_scratch0, cc0_scratch1, cc0_scratch2, cc0_scratch3}

/-- The kernel's eight semaphores are the tile's own. -/
theorem sems_scoped : ∀ s ∈ sems, s.isScoped .scVector = true := by decide

abbrev semsAt (d : Dev nD) (i : grid0.Coords) : Finset (GSem nD τ sig) := sems.map ⟨fun s => (tile d i, s), fun _ _ e => (Prod.mk.inj e).2⟩
abbrev bufsAt (i : grid0.Coords) : Finset (DevRef τ sig) := bufs.map ⟨(tile 0 i).2.devRef, Proc.devRef_injective _⟩

/-- The tile's eight semaphores are among the cells it owns. -/
theorem semsAt_sub (d : Dev nD) (i : grid0.Coords) : semsAt d i ⊆ ownCells (tile d i) := by
  intro g hg
  obtain ⟨s, hs, rfl⟩ := Finset.mem_map.mp hg
  exact mem_ownCells.mpr ⟨rfl, sems_scoped s hs⟩

/-- The four staging buffers belong to the tile. -/
theorem bufs_owner (i : grid0.Coords) : ∀ b ∈ bufs, ((tile 0 i).2.devRef b).owner = .proc (tile 0 i).2 := by
  intro b hb
  simp only [Finset.mem_insert, Finset.mem_singleton] at hb
  rcases hb with rfl | rfl | rfl | rfl <;> rfl

/-- The tile's four buffers are among the buffers it owns. -/
theorem bufsAt_sub (i : grid0.Coords) : bufsAt i ⊆ ownRefs (τ := τ) (tile 0 i).2 := by
  intro g hg
  obtain ⟨b, hb, rfl⟩ := Finset.mem_map.mp hg
  exact SparseCore.Cfg.mem_ownRefs_of_owner (bufs_owner i b hb)

/-- The tile's other buffers and semaphores, which the kernel leaves alone. -/
def others (d : Dev nD) (i : grid0.Coords) : sProp 𝕄 :=
  iprop((bigSep (ownRefs (τ := τ) (tile 0 i).2 \ bufsAt i) fun b => iprop(∃ f, ((d, b) : Loc nD τ sig) ↦{fullShare} f))
    ∗ bigSep (ownCells (tile d i) \ semsAt d i) fun g => semVal g 0)

abbrev idle (d : Dev nD) (i : grid0.Coords) : sProp 𝕄 :=
  Idle d i (Memref.whole cc0_scratch0) (Memref.whole cc0_scratch1) (Memref.whole cc0_scratch2) (Memref.whole cc0_scratch3)
    cc0_scratch4 cc0_scratch5 cc0_scratch6 cc0_scratch7 cc0_scratch8 cc0_scratch9 cc0_scratch10 cc0_scratch11

/-- What is held of each of the four buffers, written out. -/
theorem bigSep_bufs (Φ : Ref sig .scVector → sProp 𝕄) : bigSep bufs Φ = iprop(Φ cc0_scratch0 ∗ Φ cc0_scratch1 ∗ Φ cc0_scratch2 ∗ Φ cc0_scratch3) := by
  rw [SparseCore.bigSep_insert' (by decide), SparseCore.bigSep_insert' (by decide), SparseCore.bigSep_insert' (by decide), bigSep_singleton]

/-- A tile's semaphores at zero: the kernel's eight, and the others. -/
theorem ownSems0_eq (d : Dev nD) (i : grid0.Coords) :
    (ownSems0 (tile d i) : sProp 𝕄) = iprop((semVal (tile d i, .dma cc0_scratch4.sem) 0 ∗ semVal (tile d i, .dma cc0_scratch5.sem) 0
      ∗ semVal (tile d i, .dma cc0_scratch6.sem) 0 ∗ semVal (tile d i, .dma cc0_scratch7.sem) 0 ∗ semVal (tile d i, .dma cc0_scratch8.sem) 0
      ∗ semVal (tile d i, .dma cc0_scratch9.sem) 0 ∗ semVal (tile d i, .dma cc0_scratch10.sem) 0 ∗ semVal (tile d i, .dma cc0_scratch11.sem) 0)
      ∗ bigSep (ownCells (tile d i) \ semsAt d i) fun g => semVal g 0) := by
  unfold SparseCore.Cfg.ownSems0
  rw [SparseCore.bigSep_sdiff_split' (semsAt_sub d i), bigSep_map,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- A tile's buffers: the kernel's four, and the others. -/
theorem ownBufs_eq (d : Dev nD) (i : grid0.Coords) :
    (ownBufs (tile d i) : sProp 𝕄) = iprop(((∃ f, (tile d i).loc cc0_scratch0 ↦{fullShare} f) ∗ (∃ f, (tile d i).loc cc0_scratch1 ↦{fullShare} f)
      ∗ (∃ f, (tile d i).loc cc0_scratch2 ↦{fullShare} f) ∗ (∃ f, (tile d i).loc cc0_scratch3 ↦{fullShare} f))
      ∗ bigSep (ownRefs (τ := τ) (tile 0 i).2 \ bufsAt i) fun b => iprop(∃ f, ((d, b) : Loc nD τ sig) ↦{fullShare} f)) := by
  unfold SparseCore.Cfg.ownBufs
  refine (SparseCore.bigSep_sdiff_split' (bufsAt_sub i)).trans ?_
  rw [bigSep_map, bigSep_bufs]
  rfl

/-- A staging buffer at some contents reads something, … -/
theorem own_of (d : Dev nD) (i : grid0.Coords) {s : Shape} (b : Ref sig .scVector) (B : Memref sig .scVector .vmem s .f32) (h : B.view.loc (tile d i) = (tile d i).loc b) :
    (iprop(∃ f, (tile d i).loc b ↦{fullShare} f) : sProp 𝕄) ⊢ iprop(∃ v, own d i B v) := by
  rw [← h]
  unfold own
  iintro ⟨%f, H⟩
  iexists B.view.read (Elt F) f, f
  isplitr; · ipureintro; rfl
  iexact H

/-- … and a staging buffer that reads something is at some contents. -/
theorem of_own (d : Dev nD) (i : grid0.Coords) {s : Shape} (b : Ref sig .scVector) (B : Memref sig .scVector .vmem s .f32) (h : B.view.loc (tile d i) = (tile d i).loc b) :
    (iprop(∃ v, own d i B v) : sProp 𝕄) ⊢ iprop(∃ f, (tile d i).loc b ↦{fullShare} f) := by
  rw [← h]
  unfold own
  iintro ⟨%v, %f, -, H⟩
  iexists f
  iexact H

/-- What a tile owns gives its ring at rest, beside what the kernel does not touch … -/
theorem idle_of (d : Dev nD) (i : grid0.Coords) : (iprop(ownBufs (tile d i) ∗ ownSems0 (tile d i)) : sProp 𝕄) ⊢ iprop(idle d i ∗ others d i) := by
  rw [ownSems0_eq, ownBufs_eq]
  unfold idle Idle others
  iintro ⟨⟨⟨HA, HB, HC, HD⟩, Hb⟩, ⟨Ha, Hs⟩⟩
  ihave HA := own_of d i cc0_scratch0 (Memref.whole cc0_scratch0) rfl $$ HA
  ihave HB := own_of d i cc0_scratch1 (Memref.whole cc0_scratch1) rfl $$ HB
  ihave HC := own_of d i cc0_scratch2 (Memref.whole cc0_scratch2) rfl $$ HC
  ihave HD := own_of d i cc0_scratch3 (Memref.whole cc0_scratch3) rfl $$ HD
  isplitr [Hb Hs]
  · isplitl [HA]; · iexact HA
    isplitl [HB]; · iexact HB
    isplitl [HC]; · iexact HC
    isplitl [HD]; · iexact HD
    iexact Ha
  · isplitl [Hb]; · iexact Hb
    iexact Hs

/-- … and is had back from them. -/
theorem of_idle (d : Dev nD) (i : grid0.Coords) : (iprop(idle d i ∗ others d i) : sProp 𝕄) ⊢ iprop(ownBufs (tile d i) ∗ ownSems0 (tile d i)) := by
  rw [ownSems0_eq, ownBufs_eq]
  unfold idle Idle others
  iintro ⟨⟨HA, HB, HC, HD, Ha⟩, Hb, Hs⟩
  ihave HA := of_own d i cc0_scratch0 (Memref.whole cc0_scratch0) rfl $$ HA
  ihave HB := of_own d i cc0_scratch1 (Memref.whole cc0_scratch1) rfl $$ HB
  ihave HC := of_own d i cc0_scratch2 (Memref.whole cc0_scratch2) rfl $$ HC
  ihave HD := of_own d i cc0_scratch3 (Memref.whole cc0_scratch3) rfl $$ HD
  isplitr [Ha Hs]
  · isplitr [Hb]
    · isplitl [HA]; · iexact HA
      isplitl [HB]; · iexact HB
      isplitl [HC]; · iexact HC
      iexact HD
    · iexact Hb
  · isplitl [Ha]; · iexact Ha
    iexact Hs

variable [FloatOps F]

/-- A tile's task: from its chunks, its own buffers and semaphores, and what it owes, the kernel's body leaves its
    chunks of `o` at the masked `x` and everything else as it was. -/
theorem tile_task (d : Dev nD) (i : grid0.Coords) (X Y : S2x16x512x2048.Idx → Elt F .f32) (O : CellTallies nD τ sig (HIx 1)) (W : Waits sig (HIx 1)) (hO : ∀ g, O g none = 0) :
    iprop(levAts (K (F := F)).L (K (F := F)).lev ∗ emp ∗ chunks d i X Y ∗ scopedBufs (tile d i) ∗ scopedSems0 (tile d i) ∗ owes (tile d i) O W)
      ⊢ wp frame (wpE (defs₀ (F := F)) 𝒱₀ (tile d i) none) Set.univ
          (cc0__sc_topk_mask i xA (Memref.isWhole_whole _) oA (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10 cc0_scratch11)
          fun _ => iprop(chunks d i X (out X) ∗ scopedBufs (tile d i) ∗ scopedSems0 (tile d i)
            ∗ ∃ W', ⌜∀ p ∈ W', p ∈ W ∨ p.2 = none⌝ ∗ owes (tile d i) O W') := by
  rw [(K (F := F)).scopedBufs_V facts d ((i 0).castLE hcore0) ((i 1).castLE hsub0), SparseCore.Cfg.scopedSems0_V (Val := Elt F) d ((i 0).castLE hcore0) ((i 1).castLE hsub0)]
  have hrun := tile_run d i X (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scratch8 cc0_scratch9 cc0_scratch10 cc0_scratch11 Y (Ob := O) (W := W)
  have hrest : ∀ P : ℕ → sProp 𝕄, rest P 0 = bigSep (Finset.range 64) P := fun P => by unfold rest; rw [Finset.range_eq_Ico]
  have hdone : ∀ P : ℕ → sProp 𝕄, done P 64 = bigSep (Finset.range 64) P := fun P => rfl
  rw [hrest, hrest, hdone, hdone] at hrun
  unfold chunks
  iintro ⟨#Hlv, -, ⟨Hx, Ho⟩, Hb, Hs, HO⟩
  ihave HI := (idle_of (F := F) d i) $$ [Hb Hs]
  · isplitl [Hb] <;> iassumption
  icases HI with ⟨HI, Hr⟩
  ihave Hm := ((K (F := F)).mayWaits_none (thr := tile d i) hO) $$ Hlv
  iapply (wp_wand frame (wpE (defs₀ (F := F)) 𝒱₀ (tile d i) none) Set.univ) $$ [HI Hx Ho HO Hm]
  · iapply hrun
    isplitl [HI]; · iexact HI
    isplitl [Hx]; · iexact Hx
    isplitl [Ho]; · iexact Ho
    unfold owing
    isplitl [Hm]; · iexact Hm
    iexists W
    isplitr; · ipureintro; exact fun p hp => Or.inl hp
    iexact HO
  iintro %_ ⟨HI, Hx, Ho, Hw⟩
  unfold owing
  icases Hw with ⟨-, HO⟩
  ihave HI := (of_idle (F := F) d i) $$ [HI Hr]
  · isplitl [HI] <;> iassumption
  icases HI with ⟨Hb, Hs⟩
  isplitl [Hx Ho]
  · isplitl [Hx]; · iexact Hx
    iexact Ho
  isplitl [Hb]; · iexact Hb
  isplitl [Hs]; · iexact Hs
  iexact HO

/-! ## What the handshakes carry -/

variable (m : (ℓ : Loc nD τ sig) → Buf (Elt F) ℓ) (ρ : Dev nD → PrngReg)

/-- The call takes `x` and `o` to the SparseCores as their tiles' chunks, and brings them back with `o` masked. -/
def P : (K (F := F)).Pay (nD := nD) (Val := Elt F) (Name := ℕ) (U := UU) where
  st := fun q d c => match q with | 0 => bigSep Finset.univ fun s : Fin 16 => chunks d (coords c s) (m (xLoc d)) (m (oLoc d))
  dn := fun q d c => match q with | 0 => bigSep Finset.univ fun s : Fin 16 => chunks d (coords c s) (m (xLoc d)) (out (m (xLoc d)))
  go := fun q d c s => match q with | 0 => chunks d (coords c s) (m (xLoc d)) (m (oLoc d))
  td := fun q d c s => match q with | 0 => chunks d (coords c s) (m (xLoc d)) (out (m (xLoc d)))
  x := fun _ _ => iprop(emp)

instance P_storable : (P (F := F) m).IsStorable where
  st q d c := match q with
    | 0 => share_storable d c _ _
  dn q d c := match q with
    | 0 => share_storable d c _ _
  go q d c s := match q with
    | 0 => (inferInstance : BI.Storable (upEmb : UEmb _ 𝕄) (chunks d (coords c s) (m (xLoc d)) (m (oLoc d))))
  td q d c s := match q with
    | 0 => (inferInstance : BI.Storable (upEmb : UEmb _ 𝕄) (chunks d (coords c s) (m (xLoc d)) (out (m (xLoc d)))))

/-! ## The launch theorem's obligations -/

/-- The task a tile is given is the kernel's body at the tile's coordinates. -/
theorem defs₀_vector (c : Fin τ.nSC) (s : Fin τ.nSub) :
    defs₀ (F := F) (.scVector c s) 0 ()
      = SparseCore.onTile hcore0 hsub0 (fun c s => cc0__sc_topk_mask (coords c s) xA (Memref.isWhole_whole _) oA (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7 cc0_scratch8 cc0_scratch9 cc0_scratch10 cc0_scratch11) ⟨⟩ c s := rfl

/-- What a task may have waited on, stated as the launch asks. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task does what the launch asks of it. -/
theorem tile_obl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task d (coords ⟨_, hc.1⟩ ⟨_, hc.2⟩) (m (xLoc d)) (m (oLoc d)) O W hO).trans (wp_mono frame _ _ fun _ => waits_weaken)

/-- A SparseCore's share is its tiles' shares. -/
theorem vec_split : (K (F := F)).VecSplit' (P m) 0 := by
  intro d c
  show (bigSep Finset.univ fun s : Fin 16 => chunks d (coords c s) (m (xLoc d)) (m (oLoc d))) ⊢ |={Set.univ}=> iprop(
      (bigSep Finset.univ fun s : Fin 16 => chunks d (coords c s) (m (xLoc d)) (m (oLoc d)))
      ∗ ((bigSep Finset.univ fun s : Fin 16 => chunks d (coords c s) (m (xLoc d)) (out (m (xLoc d))))
          -∗ bigSep Finset.univ fun s : Fin 16 => chunks d (coords c s) (m (xLoc d)) (out (m (xLoc d)))))
  iintro H; imodintro
  isplitl [H]; · iexact H
  iintro H
  iexact H

/-- Any number of empty parts is empty. -/
theorem bigSep_emp' {I : Type} (s : Finset I) : (bigSep s fun _ => iprop(emp)) = (iprop(emp) : sProp 𝕄) := bigSep_emp_const s

/-- The launch's ghost state: the handshakes' rounds, and the transfers' counters at their start. -/
def u₀ : UU := (initOf (K (F := F)).hsCells (K (F := F)).hsToks, 1)

/-- The launch's ghost state gives the handshakes' rounds, and nothing more is asked of it. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The whole program -/

/-- The arrays that @main holds: `x` and `o`. -/
theorem arrays (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What the SparseCores are sent, all together: `x` and `o` as they are. -/
theorem st_eq (d : Dev nD) : (bigSep Finset.univ fun c : Fin ((K (F := F)).nCore 0) => (P m).st 0 d c)
    = iprop((xLoc d ↦{fullShare} m (xLoc d)) ∗ oLoc d ↦{fullShare} m (oLoc d)) := (both_split d _ _).symm

/-- What the SparseCores send back, all together: `x` as it was and `o` masked. -/
theorem dn_eq (d : Dev nD) : (bigSep Finset.univ fun c : Fin ((K (F := F)).nCore 0) => (P m).dn 0 d c)
    = iprop((xLoc d ↦{fullShare} m (xLoc d)) ∗ oLoc d ↦{fullShare} out (m (xLoc d))) := (both_split d _ _).symm

/-- What the TensorCore holds at its end: `x` as it was and `o` masked. -/
abbrev Fin' (d : Dev nD) : sProp 𝕄 := iprop((xLoc d ↦{fullShare} m (xLoc d)) ∗ oLoc d ↦{fullShare} out (m (xLoc d)))

/-- The TensorCore starts the one call and waits for it. -/
theorem main_run (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ Fin' m d ∗ (K (F := F)).tcEnd d) := by
  unfold SparseCore.Cfg.tcRes SparseCore.Cfg.tcEnd
  rw [arrays]
  simp only [main, wp_bind, wp_pure]
  iintro ⟨#Hctx, Hst, ⟨Hb, Hxo, Hts, -⟩, -⟩
  iapply ((K (F := F)).wp_run (D (F := F)) 𝒱 (EH := EH) (P := P m) κ d 0) $$ [Hst Hxo Hb Hts]
  isplitr; · iexact Hctx
  isplitl [Hst]; · iexact Hst
  isplitl [Hxo]
  · rw [st_eq]; iexact Hxo
  iintro ⟨Hst, Hdn⟩
  ihave Hdn' := (Entails.of_eq (dn_eq m d)) $$ Hdn
  imodintro
  isplitl [Hst]; · iexact Hst
  isplitl [Hdn']; · iexact Hdn'
  isplitl [Hb] <;> iassumption

/-- What is claimed of device `d`'s final memory. -/
def ends (d : Dev nD) (s' : Phys nD τ sig (Elt F)) : Prop := s'.mem.mem (xLoc d) = m (xLoc d) ∧ s'.mem.mem (oLoc d) = out (m (xLoc d))

/-- The final memory has what the TensorCore holds at its end. -/
theorem ends_of (d : Dev nD) (s' : Phys nD τ sig (Elt F)) : iprop(Fin' m d ∗ SI s') ⊢ (⌜ends m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := out (m (xLoc d)))) $$ [HSI Ho]
  · isplitl [HSI] <;> iassumption
  icases H with %h2
  ipureintro; exact ⟨funext fun i => h1 i (Finset.mem_univ i), funext fun i => h2 i (Finset.mem_univ i)⟩

/-- The program runs; `x` ends unchanged, `o` ends at the masked `x`, and every semaphore ends at zero. -/
theorem run_main [∀ e, Nonempty (Elt F e)] :
    θ_run (Cert.KernelIdeal.defs (F := F)) (Cert.KernelIdeal.threads (F := F)) ⟨m, fun _ => 0, ρ⟩
      (fun r => (∀ d : Dev nD, r.2.mem (xLoc d) = m (xLoc d) ∧ r.2.mem (oLoc d) = out (m (xLoc d))) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tile_obl m)
    (fun q _ => match q with | 0 => SparseCore.Cfg.VecSplit.of_plain (vec_split m))
    m ρ main (fun _ => iprop(emp)) (Fin' m) (u₀ (F := F)) (sep_elim_left.trans (hu₀ m)) (main_run m ρ) (ends m) (ends_of m) _ (fun _ h hz => ⟨h, hz⟩)

end Cert.Proof.KernelIdeal

end
-- ==== Proof.Network.lean ====
/-
  The fifth largest of sixteen elements of a linear order, two ways: by the kernel's network of minima and maxima, and
  as the fifth entry of a sort that puts the greater first. Either is told by which `t` lie at or below it: those that at
  least five of the sixteen elements reach.
-/
module

public import Idealize.ShloMosaic.Lib.SortFacts
public import Mathlib.Order.Interval.Finset.Fin
public import Mathlib.Algebra.BigOperators.Fin

@[expose] public section

namespace Cert.Proof

open Idealize.ShloMosaic

variable {α : Type} [LinearOrder α]

/-- How many of the elements reach `t`. -/
def reach {n : ℕ} (a : Fin n → α) (t : α) : ℕ := (Finset.univ.filter fun j => t ≤ a j).card

/-! ## The network -/

/-- Four elements in ascending order, by five comparisons. -/
def sorted4 (p q r s : α) : Fin 4 → α :=
  ![min (min p q) (min r s), min (min (max p q) (max r s)) (max (min p q) (min r s)),
    max (min (max p q) (max r s)) (max (min p q) (min r s)), max (max p q) (max r s)]

/-- The five largest of two ascending groups of four, in ascending order. -/
def top5 (u v : Fin 4 → α) : Fin 5 → α :=
  ![min (min (min (u 3) (v 3)) (max (u 1) (v 1))) (max (min (u 2) (v 2)) (max (u 0) (v 0))),
    max (min (min (u 3) (v 3)) (max (u 1) (v 1))) (max (min (u 2) (v 2)) (max (u 0) (v 0))),
    min (max (min (u 3) (v 3)) (max (u 1) (v 1))) (max (u 2) (v 2)),
    max (max (min (u 3) (v 3)) (max (u 1) (v 1))) (max (u 2) (v 2)),
    max (u 3) (v 3)]

/-- The fifth largest of two ascending groups of five. -/
def cut5 (a b : Fin 5 → α) : α :=
  min (min (min (min (max (a 4) (b 0)) (max (a 3) (b 1))) (max (a 2) (b 2))) (max (a 1) (b 3))) (max (a 0) (b 4))

/-- The network's fifth largest of sixteen. -/
def fifth (a : Fin 16 → α) : α :=
  cut5 (top5 (sorted4 (a 0) (a 1) (a 2) (a 3)) (sorted4 (a 4) (a 5) (a 6) (a 7)))
    (top5 (sorted4 (a 8) (a 9) (a 10) (a 11)) (sorted4 (a 12) (a 13) (a 14) (a 15)))

/-- How many of four elements reach `t`. -/
def reach4 (p q r s t : α) : ℕ :=
  (if t ≤ p then 1 else 0) + (if t ≤ q then 1 else 0) + (if t ≤ r then 1 else 0) + (if t ≤ s then 1 else 0)

theorem reach4_le (p q r s t : α) : reach4 p q r s t ≤ 4 := by
  unfold reach4
  split_ifs <;> omega

/-- Entry `i` of the sorted four reaches `t` when at least `4 - i` of the four do. -/
theorem le_sorted4 (p q r s t : α) : ∀ i : Fin 4, t ≤ sorted4 p q r s i ↔ 4 - i.val ≤ reach4 p q r s t := by
  have h0 : t ≤ min (min p q) (min r s) ↔ 4 ≤ reach4 p q r s t := by
    unfold reach4
    simp only [le_max_iff, le_min_iff]
    split_ifs <;> simp_all
  have h1 : t ≤ min (min (max p q) (max r s)) (max (min p q) (min r s)) ↔ 3 ≤ reach4 p q r s t := by
    unfold reach4
    simp only [le_max_iff, le_min_iff]
    split_ifs <;> simp_all
  have h2 : t ≤ max (min (max p q) (max r s)) (max (min p q) (min r s)) ↔ 2 ≤ reach4 p q r s t := by
    unfold reach4
    simp only [le_max_iff, le_min_iff]
    split_ifs <;> simp_all
  have h3 : t ≤ max (max p q) (max r s) ↔ 1 ≤ reach4 p q r s t := by
    unfold reach4
    simp only [le_max_iff]
    split_ifs <;> simp_all
  intro i
  match i with
  | 0 => exact h0
  | 1 => exact h1
  | 2 => exact h2
  | 3 => exact h3

/-- Entry `i` of the merged five reaches `t` when at least `5 - i` of the eight do. -/
theorem le_top5 {u v : Fin 4 → α} {t : α} {c d : ℕ} (hc : c ≤ 4) (hd : d ≤ 4) (hu : ∀ i : Fin 4, t ≤ u i ↔ 4 - i.val ≤ c)
    (hv : ∀ i : Fin 4, t ≤ v i ↔ 4 - i.val ≤ d) : ∀ i : Fin 5, t ≤ top5 u v i ↔ 5 - i.val ≤ c + d := by
  have u0 : t ≤ u 0 ↔ 4 ≤ c := hu 0
  have u1 : t ≤ u 1 ↔ 3 ≤ c := hu 1
  have u2 : t ≤ u 2 ↔ 2 ≤ c := hu 2
  have u3 : t ≤ u 3 ↔ 1 ≤ c := hu 3
  have v0 : t ≤ v 0 ↔ 4 ≤ d := hv 0
  have v1 : t ≤ v 1 ↔ 3 ≤ d := hv 1
  have v2 : t ≤ v 2 ↔ 2 ≤ d := hv 2
  have v3 : t ≤ v 3 ↔ 1 ≤ d := hv 3
  clear hu hv
  have h0 : t ≤ min (min (min (u 3) (v 3)) (max (u 1) (v 1))) (max (min (u 2) (v 2)) (max (u 0) (v 0))) ↔ 5 ≤ c + d := by
    simp only [le_max_iff, le_min_iff, u0, u1, u2, u3, v0, v1, v2, v3]
    omega
  have h1 : t ≤ max (min (min (u 3) (v 3)) (max (u 1) (v 1))) (max (min (u 2) (v 2)) (max (u 0) (v 0))) ↔ 4 ≤ c + d := by
    simp only [le_max_iff, le_min_iff, u0, u1, u2, u3, v0, v1, v2, v3]
    omega
  have h2 : t ≤ min (max (min (u 3) (v 3)) (max (u 1) (v 1))) (max (u 2) (v 2)) ↔ 3 ≤ c + d := by
    simp only [le_max_iff, le_min_iff, u1, u2, u3, v1, v2, v3]
    omega
  have h3 : t ≤ max (max (min (u 3) (v 3)) (max (u 1) (v 1))) (max (u 2) (v 2)) ↔ 2 ≤ c + d := by
    simp only [le_max_iff, le_min_iff, u1, u2, u3, v1, v2, v3]
    omega
  have h4 : t ≤ max (u 3) (v 3) ↔ 1 ≤ c + d := by
    simp only [le_max_iff, u3, v3]
    omega
  intro i
  match i with
  | 0 => exact h0
  | 1 => exact h1
  | 2 => exact h2
  | 3 => exact h3
  | 4 => exact h4

/-- The cut reaches `t` when at least five of the sixteen do. -/
theorem le_cut5 {a b : Fin 5 → α} {t : α} {c d : ℕ} (ha : ∀ i : Fin 5, t ≤ a i ↔ 5 - i.val ≤ c)
    (hb : ∀ i : Fin 5, t ≤ b i ↔ 5 - i.val ≤ d) : t ≤ cut5 a b ↔ 5 ≤ c + d := by
  simp only [cut5, le_max_iff, le_min_iff, ha, hb]
  show ((((_ - 4 ≤ c ∨ _ - 0 ≤ d) ∧ (_ - 3 ≤ c ∨ _ - 1 ≤ d)) ∧ (_ - 2 ≤ c ∨ _ - 2 ≤ d)) ∧ (_ - 1 ≤ c ∨ _ - 3 ≤ d)) ∧ (_ - 0 ≤ c ∨ _ - 4 ≤ d) ↔ _
  omega

/-- The network's fifth largest lies at or above just those `t` that at least five of the sixteen reach. -/
theorem le_fifth (a : Fin 16 → α) (t : α) : t ≤ fifth a ↔ 5 ≤ reach a t := by
  have e : reach a t = (reach4 (a 0) (a 1) (a 2) (a 3) t + reach4 (a 4) (a 5) (a 6) (a 7) t)
      + (reach4 (a 8) (a 9) (a 10) (a 11) t + reach4 (a 12) (a 13) (a 14) (a 15) t) := by
    unfold reach reach4
    rw [Finset.card_filter]
    simp only [Fin.sum_univ_succ, Fin.sum_univ_zero]
    simp only [Fin.succ_zero_eq_one, Fin.succ_one_eq_two, Fin.isValue, Fin.reduceSucc]
    omega
  rw [e]
  exact le_cut5 (le_top5 (reach4_le ..) (reach4_le ..) (le_sorted4 _ _ _ _ t) (le_sorted4 _ _ _ _ t))
    (le_top5 (reach4_le ..) (reach4_le ..) (le_sorted4 _ _ _ _ t) (le_sorted4 _ _ _ _ t))

/-! ## The sort -/

/-- Entry `k` of the sort that puts the greater first lies at or above just those `t` that more than `k` elements reach. -/
theorem le_sortedFrom {n : ℕ} (a : Fin n → α) (B : Fin n → Fin n → Bool) (hB : ∀ i j, B i j = true ↔ a j < a i) (k : Fin n) (t : α) :
    t ≤ a (sortedFrom B k) ↔ k.val + 1 ≤ reach a t := by
  have hf : ∀ i j, B i j = false ↔ a i ≤ a j := fun i j => by
    rw [← Bool.not_eq_true, hB, not_lt]
  have hdown : ∀ i j : Fin n, i < j → a (sortedFrom B j) ≤ a (sortedFrom B i) := fun i j h =>
    (hf _ _).mp (sortedFrom_noInversion B B (fun i j h => (hf _ _).mpr ((hB _ _).mp h).le) (fun _ _ h => h)
      (fun i j l h h' => (hf _ _).mpr (((hf _ _).mp h).trans ((hf _ _).mp h'))) i j h)
  have e : reach a t = (Finset.univ.filter fun i => t ≤ a (sortedFrom B i)).card :=
    (Finset.card_bij (fun i _ => sortedFrom B i) (fun i hi => Finset.mem_filter.mpr ⟨Finset.mem_univ _, (Finset.mem_filter.mp hi).2⟩)
      (fun i _ j _ h => sortedFrom_injective B h)
      (fun j hj => by
        obtain ⟨i, rfl⟩ := sortedFrom_surjective B j
        exact ⟨i, Finset.mem_filter.mpr ⟨Finset.mem_univ _, (Finset.mem_filter.mp hj).2⟩, rfl⟩)).symm
  rw [e]
  constructor
  · intro h
    rw [← Fin.card_Iic k]
    refine Finset.card_le_card fun i hi => Finset.mem_filter.mpr ⟨Finset.mem_univ _, ?_⟩
    rcases (Finset.mem_Iic.mp hi).eq_or_lt with rfl | hlt
    · exact h
    · exact h.trans (hdown i k hlt)
  · intro h
    by_contra hn
    have hs : (Finset.univ.filter fun i => t ≤ a (sortedFrom B i)) ⊆ Finset.Iio k := fun i hi => by
      rw [Finset.mem_Iio]
      by_contra hik
      rcases (not_lt.mp hik).eq_or_lt with rfl | hlt
      · exact hn (Finset.mem_filter.mp hi).2
      · exact hn ((Finset.mem_filter.mp hi).2.trans (hdown k i hlt))
    have := Finset.card_le_card hs
    rw [Fin.card_Iio] at this
    omega

/-- The network's fifth largest is the sort's fifth entry. -/
theorem fifth_eq (a : Fin 16 → α) (B : Fin 16 → Fin 16 → Bool) (hB : ∀ i j, B i j = true ↔ a j < a i) :
    fifth a = a (sortedFrom B 4) :=
  eq_of_forall_le_iff fun t => (le_fifth a t).trans (le_sortedFrom a B hB 4 t).symm

end Cert.Proof

end
-- ==== Proof.Value.lean ====
/-
  The kernel's array over the extended reals is the reference's: at each position both keep the features above the same
  threshold, the fifth largest of the sixteen less the constant, and put zero in place of the others.
-/
module

public import proofs.«01_k».proof.Proof.Gen.ReferenceIdeal
public import proofs.«01_k».proof.Proof.Gen.ReferenceIdeal.Read
public import proofs.«01_k».proof.Proof.IdealCopies
public import proofs.«01_k».proof.Proof.Network
public import Idealize.ShloMosaic.Lib.IdealHost

@[expose] public section

noncomputable section

namespace Cert.Proof

open Idealize.ShloMosaic Idealize.ShloMosaic.ValueIdx
open Cert.ReferenceIdeal Cert.ReferenceIdeal.Read

/-- The constant both programs subtract. -/
def eps : EReal := Ideal.ofBits .f32 0x38D1B717#32

/-- Feature `m` of the sixteen `a`: itself above the threshold, zero elsewhere. -/
def masked16 (a : Fin 16 → EReal) (m : Fin 16) : EReal := if fifth a - eps < a m then a m else 0

/-! ## The kernel's side -/

set_option maxRecDepth 65536 in
/-- The kernel's threshold is the network's fifth largest less the constant. -/
theorem thr_ideal (a : Fin 16 → EReal) :
    Cert.Proof.KernelIdeal.thr (F := Ideal) (fun m _ => a m) (ix1 0) = fifth a - eps := rfl

/-- What the kernel leaves of feature `m`. -/
theorem keep_ideal (a : Fin 16 → EReal) (m : Fin 16) : Cert.Proof.KernelIdeal.keep (F := Ideal) a m = masked16 a m := by
  have e : Cert.Proof.KernelIdeal.keep (F := Ideal) a m
      = Scalar.select (Ideal.cmp .ogt (a m) (Cert.Proof.KernelIdeal.thr (F := Ideal) (fun m _ => a m) (ix1 0))) (a m) (Ideal.ofBits .f32 0x00000000#32) := by
    unfold Cert.Proof.KernelIdeal.keep Cert.Proof.KernelIdeal.sel Cert.KernelIdeal.Gen.k0_pay59
    refine (shapeCast_apply _ Cert.KernelIdeal.Gen.shapeCasts_S16_S1x1x16 _ (ix1 0) ?_).trans rfl
    rw [Shape.rowMajor_val_three, Shape.rowMajor_val_one]
    rfl
  rw [e, thr_ideal, masked16]
  by_cases h : fifth a - eps < a m
  · rw [if_pos h]
    simp [Scalar.select, Ideal.cmp, h]
  · rw [if_neg h]
    simp [Scalar.select, Ideal.cmp, h]

/-! ## The reference's side -/

/-- The sixteen features at the position of `z`. -/
def group (X : S2x16x512x2048.Idx → EReal) (z : S2x16x512x2048.Idx) (m : Fin 16) : EReal := X (ix4 (z 0) m (z 2) (z 3))

/-- The row of the reference's table that holds the position of `z`. -/
def row (z : S2x16x512x2048.Idx) : Fin 2097152 :=
  ⟨((z 0 : Fin 2).val * 512 + (z 2 : Fin 512).val) * 2048 + (z 3 : Fin 2048).val, by
    have h0 : (z 0 : Fin 2).val < 2 := (z 0 : Fin 2).isLt
    have h2 : (z 2 : Fin 512).val < 512 := (z 2 : Fin 512).isLt
    have h3 : (z 3 : Fin 2048).val < 2048 := (z 3 : Fin 2048).isLt
    omega⟩

/-- The table's row holds the sixteen features of its position. -/
theorem table_apply (X : S2x16x512x2048.Idx → EReal) (z : S2x16x512x2048.Idx) (m : Fin 16) :
    val_main_v1 (F := Ideal) X (ix2 (row z) m) = group X z m := by
  have h0 : (z 0 : Fin 2).val < 2 := (z 0 : Fin 2).isLt
  have h2 : (z 2 : Fin 512).val < 512 := (z 2 : Fin 512).isLt
  have h3 : (z 3 : Fin 2048).val < 2048 := (z 3 : Fin 2048).isLt
  have hm : m.val < 16 := m.isLt
  rw [val_main_v1_apply, val_main_v0_apply]
  refine congrArg X (funext fun b => Fin.ext ?_)
  match b with
  | ⟨0, _⟩ =>
    show ((((z 0 : Fin 2).val * 512 + (z 2 : Fin 512).val) * 2048 + (z 3 : Fin 2048).val) * 16 + m.val) / 16777216 = (z 0 : Fin 2).val
    omega
  | ⟨1, _⟩ =>
    show ((((z 0 : Fin 2).val * 512 + (z 2 : Fin 512).val) * 2048 + (z 3 : Fin 2048).val) * 16 + m.val) % 16 = m.val
    omega
  | ⟨2, _⟩ =>
    show ((((z 0 : Fin 2).val * 512 + (z 2 : Fin 512).val) * 2048 + (z 3 : Fin 2048).val) * 16 + m.val) / 32768 % 512 = (z 2 : Fin 512).val
    omega
  | ⟨3, _⟩ =>
    show ((((z 0 : Fin 2).val * 512 + (z 2 : Fin 512).val) * 2048 + (z 3 : Fin 2048).val) * 16 + m.val) / 16 % 2048 = (z 3 : Fin 2048).val
    omega

/-- Moving along the features in row `r` stays in the row. -/
theorem along_row (r : Fin 2097152) (j k : Fin 16) : (ix2 r j : S2097152x16.Idx).along (1 : Fin 2) k = ix2 r k := by
  funext b
  match b with
  | ⟨0, _⟩ => rfl
  | ⟨1, _⟩ => rfl

/-- The fifth of the top five in a row of a table is the fifth largest of the row. -/
theorem topK_apply (Y : S2097152x16.Idx → EReal) (r : Fin 2097152) :
    (Host.topK S2097152x5 1 (FloatOps.cmpfTotal (F := Ideal) (φ := .f32) .gt) Y Gen.sliceFits_S2097152x16_S2097152x5).1 (ix2 r (4 : Fin 5))
      = fifth fun m => Y (ix2 r m) := by
  unfold Host.topK
  show extractStridedSlice S2097152x5 (fun _ => 0) (Host.sort2 S2097152x16 1 (fun l r => FloatOps.cmpfTotal (F := Ideal) (φ := .f32) .gt l.1 r.1) Y
    (fun i => if hd : 1 < S2097152x16.rank then iotaInDim S2097152x16 32 ⟨1, hd⟩ i else 0#32)).1 Gen.sliceFits_S2097152x16_S2097152x5 (ix2 r (4 : Fin 5)) = _
  refine (extractStridedSlice_apply _ _ _ _ (ix2 r (4 : Fin 16)) fun b => ?_).trans ?_
  · match b with
    | ⟨0, _⟩ => exact (Nat.zero_add _).symm
    | ⟨1, _⟩ => rfl
  rw [Host.sort2_eq_sortBy]
  show Host.sortBy S2097152x16 1 _ _ Y (ix2 r (4 : Fin 16)) = _
  unfold Host.sortBy
  rw [dif_pos (show 1 < S2097152x16.rank by decide)]
  show Y ((ix2 r (4 : Fin 16) : S2097152x16.Idx).along (1 : Fin 2) (sortedFrom _ (4 : Fin 16))) = _
  refine (congrArg Y (along_row r 4 _)).trans (fifth_eq (fun m => Y (ix2 r m)) _ fun i j => ?_).symm
  have h : ∀ p q : EReal, (BitVec.ofBool (decide (q < p)) == 1#1) = true ↔ q < p := fun p q => by
    by_cases h : q < p <;> simp [h]
  exact (h _ _).trans (Iff.of_eq (congrArg₂ (fun p q => q < p) (congrArg Y (along_row r 4 i)) (congrArg Y (along_row r 4 j))))

/-- The fifth of the top five in the row of `z` is the fifth largest of the sixteen features. -/
theorem top_apply (X : S2x16x512x2048.Idx → EReal) (z : S2x16x512x2048.Idx) :
    val_main_values (F := Ideal) X (ix2 (row z) (4 : Fin 5)) = fifth (group X z) := by
  unfold val_main_values
  rw [topK_apply]
  exact congrArg fifth (funext fun m => table_apply X z m)

/-- The reference's threshold in the row of `z`. -/
theorem threshold_apply (X : S2x16x512x2048.Idx → EReal) (z : S2x16x512x2048.Idx) (m : Fin 16) :
    val_main_v7 (F := Ideal) X (ix2 (row z) m) = fifth (group X z) - eps := by
  rw [val_main_v7_apply, val_main_v6_apply, val_main_v5_apply, val_main_cst_apply, val_main_v4_apply, val_main_v3_apply, val_main_v2_apply]
  have e : idx_main_v2 (idx_main_v3 (idx_main_v4 (idx_main_v7 (ix2 (row z) m)))) = ix2 (row z) (4 : Fin 5) := by
    funext b
    match b with
    | ⟨0, _⟩ =>
      refine Fin.ext ?_
      show ((row z).val * 1 + 0) / 1 = (row z).val
      omega
    | ⟨1, _⟩ => rfl
  rw [e, top_apply]
  rfl

/-- What the reference leaves of feature `m` in the row of `z`. -/
theorem product_apply (X : S2x16x512x2048.Idx → EReal) (z : S2x16x512x2048.Idx) (m : Fin 16) :
    val_main_v10 (F := Ideal) X (ix2 (row z) m) = masked16 (group X z) m := by
  rw [val_main_v10_apply, val_main_v9_apply, val_main_v8_apply, threshold_apply, table_apply, masked16]
  show group X z m * (((Ideal.cmp .ogt (group X z m) (fifth (group X z) - eps)).toNat : ℝ) : EReal) = _
  by_cases h : fifth (group X z) - eps < group X z m
  · rw [if_pos h]
    simp [Ideal.cmp, h]
  · rw [if_neg h]
    simp [Ideal.cmp, h]

/-- The kernel's array is the reference's. -/
theorem out_eq (X : S2x16x512x2048.Idx → EReal) : Cert.Proof.KernelIdeal.out (F := Ideal) X = val_main_v14 (F := Ideal) X := by
  funext z
  have h0 : (z 0 : Fin 2).val < 2 := (z 0 : Fin 2).isLt
  have h1 : (z 1 : Fin 16).val < 16 := (z 1 : Fin 16).isLt
  have h2 : (z 2 : Fin 512).val < 512 := (z 2 : Fin 512).isLt
  have h3 : (z 3 : Fin 2048).val < 2048 := (z 3 : Fin 2048).isLt
  have e : val_main_v14 (F := Ideal) X z = val_main_v12 (F := Ideal) X z := by
    rw [val_main_v14_apply, val_main_v13_apply]
    refine congrArg _ (funext fun b => Fin.ext ?_)
    match b with
    | ⟨0, _⟩ =>
      show (((((z 0 : Fin 2).val * 16 + (z 1 : Fin 16).val) * 512 + (z 2 : Fin 512).val) * 2048 + (z 3 : Fin 2048).val) / 2048 * 2048 + ((((z 0 : Fin 2).val * 16 + (z 1 : Fin 16).val) * 512 + (z 2 : Fin 512).val) * 2048 + (z 3 : Fin 2048).val) % 2048) / 16777216 = (z 0 : Fin 2).val
      omega
    | ⟨1, _⟩ =>
      show (((((z 0 : Fin 2).val * 16 + (z 1 : Fin 16).val) * 512 + (z 2 : Fin 512).val) * 2048 + (z 3 : Fin 2048).val) / 2048 * 2048 + ((((z 0 : Fin 2).val * 16 + (z 1 : Fin 16).val) * 512 + (z 2 : Fin 512).val) * 2048 + (z 3 : Fin 2048).val) % 2048) / 1048576 % 16 = (z 1 : Fin 16).val
      omega
    | ⟨2, _⟩ =>
      show (((((z 0 : Fin 2).val * 16 + (z 1 : Fin 16).val) * 512 + (z 2 : Fin 512).val) * 2048 + (z 3 : Fin 2048).val) / 2048 * 2048 + ((((z 0 : Fin 2).val * 16 + (z 1 : Fin 16).val) * 512 + (z 2 : Fin 512).val) * 2048 + (z 3 : Fin 2048).val) % 2048) / 2048 % 512 = (z 2 : Fin 512).val
      omega
    | ⟨3, _⟩ =>
      show (((((z 0 : Fin 2).val * 16 + (z 1 : Fin 16).val) * 512 + (z 2 : Fin 512).val) * 2048 + (z 3 : Fin 2048).val) / 2048 * 2048 + ((((z 0 : Fin 2).val * 16 + (z 1 : Fin 16).val) * 512 + (z 2 : Fin 512).val) * 2048 + (z 3 : Fin 2048).val) % 2048) % 2048 = (z 3 : Fin 2048).val
      omega
  have e' : idx_main_v11 (idx_main_v12 z) = ix2 (row z) (z 1 : Fin 16) := by
    funext b
    refine Fin.ext ?_
    match b with
    | ⟨0, _⟩ =>
      show ((((z 0 : Fin 2).val * 512 + (z 2 : Fin 512).val) * 2048 + (z 3 : Fin 2048).val) * 16 + (z 1 : Fin 16).val) / 16 = ((z 0 : Fin 2).val * 512 + (z 2 : Fin 512).val) * 2048 + (z 3 : Fin 2048).val
      omega
    | ⟨1, _⟩ =>
      show ((((z 0 : Fin 2).val * 512 + (z 2 : Fin 512).val) * 2048 + (z 3 : Fin 2048).val) * 16 + (z 1 : Fin 16).val) % 16 = (z 1 : Fin 16).val
      omega
  rw [e, val_main_v12_apply, val_main_v11_apply]
  exact (keep_ideal _ _).trans ((product_apply X z (z 1 : Fin 16)).symm.trans (congrArg _ e'.symm))

end Cert.Proof

end
-- ==== Proof.lean ====
/-
  The certificate's claims, proved: the kernel runs, at the machine's words and over the extended reals, with `x`
  unchanged and every semaphore at zero; the reference runs; and over the extended reals both leave the same array.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.ReferenceIdeal.Read
public import proofs.«01_k».proof.Proof.BitsRun
public import proofs.«01_k».proof.Proof.IdealRun
public import proofs.«01_k».proof.Proof.Value
public import Idealize.ShloMosaic.Adequacy
public import Idealize.ShloMosaic.Init

@[expose] public section

noncomputable section

namespace Cert.Proof

open Idealize.ShloMosaic Idealize.SL.Sem

/-- The kernel runs at the machine's words. -/
theorem kernel_frame : Cert.quiescent_Kernel := fun m ρ _ =>
  (θ_run Cert.Kernel.defs _ _).mono (fun _ h => ⟨fun c => (h.1 c).1, h.2⟩) (Cert.Proof.Kernel.run_main (F := Bits) m ρ)

/-- The kernel runs over the extended reals. -/
theorem ideal_frame : Cert.quiescent_KernelIdeal := fun m ρ _ =>
  (θ_run Cert.KernelIdeal.defs _ _).mono (fun _ h => ⟨fun c => (h.1 c).1, h.2⟩) (Cert.Proof.KernelIdeal.run_main (F := Ideal) m ρ)

/-- The reference runs. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel and the reference leave the same array. -/
theorem algebraic : Cert.algebraic_KernelIdeal_ReferenceIdeal := fun m ρ m' ρ' _ hm =>
  ⟨fun c => Cert.Proof.KernelIdeal.out (m ((c.tc : Thread Cert.KernelIdeal.nD Cert.KernelIdeal.τ).loc Cert.KernelIdeal.main_arg0)),
    (θ_run Cert.KernelIdeal.defs _ _).mono (fun _ h c => ⟨(h.1 c).2, (h.1 c).1⟩) (Cert.Proof.KernelIdeal.run_main (F := Ideal) m ρ),
    (θ_run Cert.ReferenceIdeal.defs _ _).mono
      (fun _ h c => ⟨((h c).1.trans (Cert.ReferenceIdeal.Read.val_main_v14_eq _)).trans
        ((congrArg (Cert.ReferenceIdeal.Read.val_main_v14 (F := Ideal)) (hm c)).trans (out_eq _).symm), (h c).2⟩)
      (Cert.ReferenceIdeal.Value.run (F := Ideal) m' ρ')⟩

/-- All the claims. -/
theorem claim : Cert.Claim := ⟨Cert.Kernel.Gen.facts, Cert.KernelIdeal.Gen.facts, Cert.ReferenceIdeal.Gen.facts,
  kernel_frame, ideal_frame, reference_frame, trivial, algebraic⟩

end Cert.Proof

end
